-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v348)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v348) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v74) = v3 c
          ∧ r.2.mem ((c.tc : Thread Cert.Reference2Ideal.nD Cert.Reference2Ideal.τ).loc Cert.Reference2Ideal.main_v80) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x512 : Shape := ⟨3, ![16, 2048, 512]⟩
abbrev S1x8x257 : Shape := ⟨3, ![1, 8, 257]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S16x2048x512 .bf16) (main_arg1 : FVec F S16x2048x512 .bf16) (main_arg2 : FVec F S16x2048x512 .bf16) (main_arg3 : FVec F S1x8x257 .f32) : IVec S_ 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x2048x512 .f32 := (extf .f32 · bitsLt_bf16_f32) main_arg1
  let main_v6 : FVec F S16x2048x512 .f32 := Host.absf main_v5
  let main_cst_0 : FVec F S_ .f32 := constant S_ .f32 0x7F800000#32
  let main_v7 : FVec F S16x2048x512 .f32 := broadcastInDim S16x2048x512 ![] bcast_S_S16x2048x512 main_cst_0
  let main_v8 : IVec S16x2048x512 1 := cmpf .olt main_v6 main_v7
  let main_c_1 : IVec S_ 1 := constantI S_ 1 1#1
  let main_v9 : IVec S_ 1 := (fun x v => Host.reduce IntOp.andi x v reducesTo_S16x2048x512_S_d0_1_2 h_S_) main_v8 main_c_1
  let main_v10 : IVec S_ 1 := andi main_v4 main_v9
  let main_v11 : FVec F S1x8x257 .f32 := Host.absf main_arg3
  let main_cst_2 : FVec F S_ .f32 := constant S_ .f32 0x7F800000#32
  let main_v12 : FVec F S1x8x257 .f32 := broadcastInDim S1x8x257 ![] bcast_S_S1x8x257 main_cst_2
  let main_v13 : IVec S1x8x257 1 := cmpf .olt main_v11 main_v12
  let main_c_3 : IVec S_ 1 := constantI S_ 1 1#1
  let main_v14 : IVec S_ 1 := (fun x v => Host.reduce IntOp.andi x v reducesTo_S1x8x257_S_d0_1_2 h_S_) main_v13 main_c_3
  let main_v15 : IVec S_ 1 := andi main_v10 main_v14
  main_v15
-- ==== Kernel.lean ====
abbrev S16x2048x512 : Shape := ⟨3, ![16, 2048, 512]⟩
abbrev S1x8x257 : Shape := ⟨3, ![1, 8, 257]⟩
abbrev S8x257 : Shape := ⟨2, ![8, 257]⟩
abbrev S8x1 : Shape := ⟨2, ![8, 1]⟩
abbrev S8x512 : Shape := ⟨2, ![8, 512]⟩
abbrev S8x511 : Shape := ⟨2, ![8, 511]⟩
abbrev S8x1280 : Shape := ⟨2, ![8, 1280]⟩
abbrev S8x1152 : Shape := ⟨2, ![8, 1152]⟩
abbrev S8x1x1152 : Shape := ⟨3, ![8, 1, 1152]⟩
abbrev S8x16x1152 : Shape := ⟨3, ![8, 16, 1152]⟩
abbrev S8x128x1152 : Shape := ⟨3, ![8, 128, 1152]⟩
abbrev S128 : Shape := ⟨1, ![128]⟩
abbrev S128x1 : Shape := ⟨2, ![128, 1]⟩
abbrev S_ : Shape := ⟨0, ![]⟩
abbrev S640 : Shape := ⟨1, ![640]⟩
abbrev S1x640 : Shape := ⟨2, ![1, 640]⟩
abbrev S128x640 : Shape := ⟨2, ![128, 640]⟩
abbrev S1x128x640 : Shape := ⟨3, ![1, 128, 640]⟩
abbrev S8x128x640 : Shape := ⟨3, ![8, 128, 640]⟩
abbrev S1x8x128x640 : Shape := ⟨4, ![1, 8, 128, 640]⟩
abbrev S5x8x128x640 : Shape := ⟨4, ![5, 8, 128, 640]⟩
abbrev S1x128x512 : Shape := ⟨3, ![1, 128, 512]⟩
abbrev S1x2048x512 : Shape := ⟨3, ![1, 2048, 512]⟩
abbrev S128x512 : Shape := ⟨2, ![128, 512]⟩
abbrev S1x128 : Shape := ⟨2, ![1, 128]⟩
abbrev S128x128 : Shape := ⟨2, ![128, 128]⟩
abbrev S256x128 : Shape := ⟨2, ![256, 128]⟩
abbrev S1x640x128 : Shape := ⟨3, ![1, 640, 128]⟩
abbrev S640x128 : Shape := ⟨2, ![640, 128]⟩
abbrev S256x640 : Shape := ⟨2, ![256, 640]⟩
abbrev S1x1x128x640 : Shape := ⟨4, ![1, 1, 128, 640]⟩
abbrev S256 : Shape := ⟨1, ![256]⟩
abbrev S256x1 : Shape := ⟨2, ![256, 1]⟩

abbrev nBuf : Space → Nat
  | .hbm => 422
  | .vmem => 10
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S1x8x257, .f32⟩
  | 4 => ⟨S8x257, .f32⟩
  | 5 => ⟨S8x1, .f32⟩
  | 6 => ⟨S8x512, .f32⟩
  | 7 => ⟨S8x1, .f32⟩
  | 8 => ⟨S8x511, .f32⟩
  | 9 => ⟨S8x1280, .f32⟩
  | 10 => ⟨S8x1152, .f32⟩
  | 11 => ⟨S8x1152, .f32⟩
  | 12 => ⟨S8x1152, .f32⟩
  | 13 => ⟨S8x1152, .f32⟩
  | 14 => ⟨S8x1152, .f32⟩
  | 15 => ⟨S8x1152, .f32⟩
  | 16 => ⟨S8x1152, .f32⟩
  | 17 => ⟨S8x1152, .f32⟩
  | 18 => ⟨S8x1152, .f32⟩
  | 19 => ⟨S8x1152, .f32⟩
  | 20 => ⟨S8x1152, .f32⟩
  | 21 => ⟨S8x1152, .f32⟩
  | 22 => ⟨S8x1152, .f32⟩
  | 23 => ⟨S8x1152, .f32⟩
  | 24 => ⟨S8x1152, .f32⟩
  | 25 => ⟨S8x1152, .f32⟩
  | 26 => ⟨S8x1152, .f32⟩
  | 27 => ⟨S8x1152, .f32⟩
  | 28 => ⟨S8x1152, .f32⟩
  | 29 => ⟨S8x1152, .f32⟩
  | 30 => ⟨S8x1152, .f32⟩
  | 31 => ⟨S8x1152, .f32⟩
  | 32 => ⟨S8x1152, .f32⟩
  | 33 => ⟨S8x1152, .f32⟩
  | 34 => ⟨S8x1152, .f32⟩
  | 35 => ⟨S8x1152, .f32⟩
  | 36 => ⟨S8x1152, .f32⟩
  | 37 => ⟨S8x1152, .f32⟩
  | 38 => ⟨S8x1152, .f32⟩
  | 39 => ⟨S8x1152, .f32⟩
  | 40 => ⟨S8x1152, .f32⟩
  | 41 => ⟨S8x1152, .f32⟩
  | 42 => ⟨S8x1152, .f32⟩
  | 43 => ⟨S8x1152, .f32⟩
  | 44 => ⟨S8x1152, .f32⟩
  | 45 => ⟨S8x1152, .f32⟩
  | 46 => ⟨S8x1152, .f32⟩
  | 47 => ⟨S8x1152, .f32⟩
  | 48 => ⟨S8x1152, .f32⟩
  | 49 => ⟨S8x1152, .f32⟩
  | 50 => ⟨S8x1152, .f32⟩
  | 51 => ⟨S8x1152, .f32⟩
  | 52 => ⟨S8x1152, .f32⟩
  | 53 => ⟨S8x1152, .f32⟩
  | 54 => ⟨S8x1152, .f32⟩
  | 55 => ⟨S8x1152, .f32⟩
  | 56 => ⟨S8x1152, .f32⟩
  | 57 => ⟨S8x1152, .f32⟩
  | 58 => ⟨S8x1152, .f32⟩
  | 59 => ⟨S8x1152, .f32⟩
  | 60 => ⟨S8x1152, .f32⟩
  | 61 => ⟨S8x1152, .f32⟩
  | 62 => ⟨S8x1152, .f32⟩
  | 63 => ⟨S8x1152, .f32⟩
  | 64 => ⟨S8x1152, .f32⟩
  | 65 => ⟨S8x1152, .f32⟩
  | 66 => ⟨S8x1152, .f32⟩
  | 67 => ⟨S8x1152, .f32⟩
  | 68 => ⟨S8x1152, .f32⟩
  | 69 => ⟨S8x1152, .f32⟩
  | 70 => ⟨S8x1152, .f32⟩
  | 71 => ⟨S8x1152, .f32⟩
  | 72 => ⟨S8x1152, .f32⟩
  | 73 => ⟨S8x1152, .f32⟩
  | 74 => ⟨S8x1152, .f32⟩
  | 75 => ⟨S8x1152, .f32⟩
  | 76 => ⟨S8x1152, .f32⟩
  | 77 => ⟨S8x1152, .f32⟩
  | 78 => ⟨S8x1152, .f32⟩
  | 79 => ⟨S8x1152, .f32⟩
  | 80 => ⟨S8x1152, .f32⟩
  | 81 => ⟨S8x1152, .f32⟩
  | 82 => ⟨S8x1152, .f32⟩
  | 83 => ⟨S8x1152, .f32⟩
  | 84 => ⟨S8x1152, .f32⟩
  | 85 => ⟨S8x1152, .f32⟩
  | 86 => ⟨S8x1152, .f32⟩
  | 87 => ⟨S8x1152, .f32⟩
  | 88 => ⟨S8x1152, .f32⟩
  | 89 => ⟨S8x1152, .f32⟩
  | 90 => ⟨S8x1152, .f32⟩
  | 91 => ⟨S8x1152, .f32⟩
  | 92 => ⟨S8x1152, .f32⟩
  | 93 => ⟨S8x1152, .f32⟩
  | 94 => ⟨S8x1152, .f32⟩
  | 95 => ⟨S8x1152, .f32⟩
  | 96 => ⟨S8x1152, .f32⟩
  | 97 => ⟨S8x1152, .f32⟩
  | 98 => ⟨S8x1152, .f32⟩
  | 99 => ⟨S8x1152, .f32⟩
  | 100 => ⟨S8x1152, .f32⟩
  | 101 => ⟨S8x1152, .f32⟩
  | 102 => ⟨S8x1152, .f32⟩
  | 103 => ⟨S8x1152, .f32⟩
  | 104 => ⟨S8x1152, .f32⟩
  | 105 => ⟨S8x1152, .f32⟩
  | 106 => ⟨S8x1152, .f32⟩
  | 107 => ⟨S8x1152, .f32⟩
  | 108 => ⟨S8x1152, .f32⟩
  | 109 => ⟨S8x1152, .f32⟩
  | 110 => ⟨S8x1152, .f32⟩
  | 111 => ⟨S8x1152, .f32⟩
  | 112 => ⟨S8x1152, .f32⟩
  | 113 => ⟨S8x1152, .f32⟩
  | 114 => ⟨S8x1152, .f32⟩
  | 115 => ⟨S8x1152, .f32⟩
  | 116 => ⟨S8x1152, .f32⟩
  | 117 => ⟨S8x1152, .f32⟩
  | 118 => ⟨S8x1152, .f32⟩
  | 119 => ⟨S8x1152, .f32⟩
  | 120 => ⟨S8x1152, .f32⟩
  | 121 => ⟨S8x1152, .f32⟩
  | 122 => ⟨S8x1152, .f32⟩
  | 123 => ⟨S8x1152, .f32⟩
  | 124 => ⟨S8x1152, .f32⟩
  | 125 => ⟨S8x1152, .f32⟩
  | 126 => ⟨S8x1152, .f32⟩
  | 127 => ⟨S8x1152, .f32⟩
  | _ => ⟨S16x2048x512, .bf16⟩

abbrev hbmTy0_1 (i : Nat) : BufTy := match i % 128 with
  | 0 => ⟨S8x1152, .f32⟩
  | 1 => ⟨S8x1152, .f32⟩
  | 2 => ⟨S8x1152, .f32⟩
  | 3 => ⟨S8x1152, .f32⟩
  | 4 => ⟨S8x1152, .f32⟩
  | 5 => ⟨S8x1152, .f32⟩
  | 6 => ⟨S8x1152, .f32⟩
  | 7 => ⟨S8x1152, .f32⟩
  | 8 => ⟨S8x1152, .f32⟩
  | 9 => ⟨S8x1152, .f32⟩
  | 10 => ⟨S8x1x1152, .f32⟩
  | 11 => ⟨S8x1x1152, .f32⟩
  | 12 => ⟨S8x1x1152, .f32⟩
  | 13 => ⟨S8x1x1152, .f32⟩
  | 14 => ⟨S8x1x1152, .f32⟩
  | 15 => ⟨S8x1x1152, .f32⟩
  | 16 => ⟨S8x1x1152, .f32⟩
  | 17 => ⟨S8x1x1152, .f32⟩
  | 18 => ⟨S8x1x1152, .f32⟩
  | 19 => ⟨S8x1x1152, .f32⟩
  | 20 => ⟨S8x1x1152, .f32⟩
  | 21 => ⟨S8x1x1152, .f32⟩
  | 22 => ⟨S8x1x1152, .f32⟩
  | 23 => ⟨S8x1x1152, .f32⟩
  | 24 => ⟨S8x1x1152, .f32⟩
  | 25 => ⟨S8x1x1152, .f32⟩
  | 26 => ⟨S8x1x1152, .f32⟩
  | 27 => ⟨S8x1x1152, .f32⟩
  | 28 => ⟨S8x1x1152, .f32⟩
  | 29 => ⟨S8x1x1152, .f32⟩
  | 30 => ⟨S8x1x1152, .f32⟩
  | 31 => ⟨S8x1x1152, .f32⟩
  | 32 => ⟨S8x1x1152, .f32⟩
  | 33 => ⟨S8x1x1152, .f32⟩
  | 34 => ⟨S8x1x1152, .f32⟩
  | 35 => ⟨S8x1x1152, .f32⟩
  | 36 => ⟨S8x1x1152, .f32⟩
  | 37 => ⟨S8x1x1152, .f32⟩
  | 38 => ⟨S8x1x1152, .f32⟩
  | 39 => ⟨S8x1x1152, .f32⟩
  | 40 => ⟨S8x1x1152, .f32⟩
  | 41 => ⟨S8x1x1152, .f32⟩
  | 42 => ⟨S8x1x1152, .f32⟩
  | 43 => ⟨S8x1x1152, .f32⟩
  | 44 => ⟨S8x1x1152, .f32⟩
  | 45 => ⟨S8x1x1152, .f32⟩
  | 46 => ⟨S8x1x1152, .f32⟩
  | 47 => ⟨S8x1x1152, .f32⟩
  | 48 => ⟨S8x1x1152, .f32⟩
  | 49 => ⟨S8x1x1152, .f32⟩
  | 50 => ⟨S8x1x1152, .f32⟩
  | 51 => ⟨S8x1x1152, .f32⟩
  | 52 => ⟨S8x1x1152, .f32⟩
  | 53 => ⟨S8x1x1152, .f32⟩
  | 54 => ⟨S8x1x1152, .f32⟩
  | 55 => ⟨S8x1x1152, .f32⟩
  | 56 => ⟨S8x1x1152, .f32⟩
  | 57 => ⟨S8x1x1152, .f32⟩
  | 58 => ⟨S8x1x1152, .f32⟩
  | 59 => ⟨S8x1x1152, .f32⟩
  | 60 => ⟨S8x1x1152, .f32⟩
  | 61 => ⟨S8x1x1152, .f32⟩
  | 62 => ⟨S8x1x1152, .f32⟩
  | 63 => ⟨S8x1x1152, .f32⟩
  | 64 => ⟨S8x1x1152, .f32⟩
  | 65 => ⟨S8x1x1152, .f32⟩
  | 66 => ⟨S8x1x1152, .f32⟩
  | 67 => ⟨S8x1x1152, .f32⟩
  | 68 => ⟨S8x1x1152, .f32⟩
  | 69 => ⟨S8x1x1152, .f32⟩
  | 70 => ⟨S8x1x1152, .f32⟩
  | 71 => ⟨S8x1x1152, .f32⟩
  | 72 => ⟨S8x1x1152, .f32⟩
  | 73 => ⟨S8x1x1152, .f32⟩
  | 74 => ⟨S8x1x1152, .f32⟩
  | 75 => ⟨S8x1x1152, .f32⟩
  | 76 => ⟨S8x1x1152, .f32⟩
  | 77 => ⟨S8x1x1152, .f32⟩
  | 78 => ⟨S8x1x1152, .f32⟩
  | 79 => ⟨S8x1x1152, .f32⟩
  | 80 => ⟨S8x1x1152, .f32⟩
  | 81 => ⟨S8x1x1152, .f32⟩
  | 82 => ⟨S8x1x1152, .f32⟩
  | 83 => ⟨S8x1x1152, .f32⟩
  | 84 => ⟨S8x1x1152, .f32⟩
  | 85 => ⟨S8x1x1152, .f32⟩
  | 86 => ⟨S8x1x1152, .f32⟩
  | 87 => ⟨S8x1x1152, .f32⟩
  | 88 => ⟨S8x1x1152, .f32⟩
  | 89 => ⟨S8x1x1152, .f32⟩
  | 90 => ⟨S8x1x1152, .f32⟩
  | 91 => ⟨S8x1x1152, .f32⟩
  | 92 => ⟨S8x1x1152, .f32⟩
  | 93 => ⟨S8x1x1152, .f32⟩
  | 94 => ⟨S8x1x1152, .f32⟩
  | 95 => ⟨S8x1x1152, .f32⟩
  | 96 => ⟨S8x1x1152, .f32⟩
  | 97 => ⟨S8x1x1152, .f32⟩
  | 98 => ⟨S8x1x1152, .f32⟩
  | 99 => ⟨S8x1x1152, .f32⟩
  | 100 => ⟨S8x1x1152, .f32⟩
  | 101 => ⟨S8x1x1152, .f32⟩
  | 102 => ⟨S8x1x1152, .f32⟩
  | 103 => ⟨S8x1x1152, .f32⟩
  | 104 => ⟨S8x1x1152, .f32⟩
  | 105 => ⟨S8x1x1152, .f32⟩
  | 106 => ⟨S8x1x1152, .f32⟩
  | 107 => ⟨S8x1x1152, .f32⟩
  | 108 => ⟨S8x1x1152, .f32⟩
  | 109 => ⟨S8x1x1152, .f32⟩
  | 110 => ⟨S8x1x1152, .f32⟩
  | 111 => ⟨S8x1x1152, .f32⟩
  | 112 => ⟨S8x1x1152, .f32⟩
  | 113 => ⟨S8x1x1152, .f32⟩
  | 114 => ⟨S8x1x1152, .f32⟩
  | 115 => ⟨S8x1x1152, .f32⟩
  | 116 => ⟨S8x1x1152, .f32⟩
  | 117 => ⟨S8x1x1152, .f32⟩
  | 118 => ⟨S8x1x1152, .f32⟩
  | 119 => ⟨S8x1x1152, .f32⟩
  | 120 => ⟨S8x1x1152, .f32⟩
  | 121 => ⟨S8x1x1152, .f32⟩
  | 122 => ⟨S8x1x1152, .f32⟩
  | 123 => ⟨S8x1x1152, .f32⟩
  | 124 => ⟨S8x1x1152, .f32⟩
  | 125 => ⟨S8x1x1152, .f32⟩
  | 126 => ⟨S8x1x1152, .f32⟩
  | 127 => ⟨S8x1x1152, .f32⟩
  | _ => ⟨S16x2048x512, .bf16⟩

abbrev hbmTy0_2 (i : Nat) : BufTy := match i % 128 with
  | 0 => ⟨S8x1x1152, .f32⟩
  | 1 => ⟨S8x1x1152, .f32⟩
  | 2 => ⟨S8x1x1152, .f32⟩
  | 3 => ⟨S8x1x1152, .f32⟩
  | 4 => ⟨S8x1x1152, .f32⟩
  | 5 => ⟨S8x1x1152, .f32⟩
  | 6 => ⟨S8x1x1152, .f32⟩
  | 7 => ⟨S8x1x1152, .f32⟩
  | 8 => ⟨S8x1x1152, .f32⟩
  | 9 => ⟨S8x1x1152, .f32⟩
  | 10 => ⟨S8x16x1152, .f32⟩
  | 11 => ⟨S8x16x1152, .f32⟩
  | 12 => ⟨S8x16x1152, .f32⟩
  | 13 => ⟨S8x16x1152, .f32⟩
  | 14 => ⟨S8x16x1152, .f32⟩
  | 15 => ⟨S8x16x1152, .f32⟩
  | 16 => ⟨S8x16x1152, .f32⟩
  | 17 => ⟨S8x16x1152, .f32⟩
  | 18 => ⟨S8x128x1152, .f32⟩
  | 19 => ⟨S128, .i32⟩
  | 20 => ⟨S128x1, .i32⟩
  | 21 => ⟨S_, .i32⟩
  | 22 => ⟨S_, .i32⟩
  | 23 => ⟨S128x1, .i32⟩
  | 24 => ⟨S128x1, .i32⟩
  | 25 => ⟨S128x1, .i32⟩
  | 26 => ⟨S_, .i32⟩
  | 27 => ⟨S128x1, .i32⟩
  | 28 => ⟨S128x1, .i1⟩
  | 29 => ⟨S128x1, .i32⟩
  | 30 => ⟨S128x1, .i32⟩
  | 31 => ⟨S_, .i32⟩
  | 32 => ⟨S128x1, .i32⟩
  | 33 => ⟨S128x1, .i1⟩
  | 34 => ⟨S128x1, .i1⟩
  | 35 => ⟨S_, .i32⟩
  | 36 => ⟨S128x1, .i32⟩
  | 37 => ⟨S128x1, .i32⟩
  | 38 => ⟨S128x1, .i32⟩
  | 39 => ⟨S640, .i32⟩
  | 40 => ⟨S1x640, .i32⟩
  | 41 => ⟨S_, .i32⟩
  | 42 => ⟨S_, .i32⟩
  | 43 => ⟨S1x640, .i32⟩
  | 44 => ⟨S1x640, .i32⟩
  | 45 => ⟨S1x640, .i32⟩
  | 46 => ⟨S_, .i32⟩
  | 47 => ⟨S1x640, .i32⟩
  | 48 => ⟨S1x640, .i1⟩
  | 49 => ⟨S1x640, .i32⟩
  | 50 => ⟨S1x640, .i32⟩
  | 51 => ⟨S_, .i32⟩
  | 52 => ⟨S1x640, .i32⟩
  | 53 => ⟨S1x640, .i1⟩
  | 54 => ⟨S1x640, .i1⟩
  | 55 => ⟨S_, .i32⟩
  | 56 => ⟨S1x640, .i32⟩
  | 57 => ⟨S1x640, .i32⟩
  | 58 => ⟨S1x640, .i32⟩
  | 59 => ⟨S128x640, .i32⟩
  | 60 => ⟨S128x640, .i32⟩
  | 61 => ⟨S128x640, .i32⟩
  | 62 => ⟨S_, .i32⟩
  | 63 => ⟨S128x640, .i32⟩
  | 64 => ⟨S128x640, .i32⟩
  | 65 => ⟨S_, .i32⟩
  | 66 => ⟨S128x640, .i32⟩
  | 67 => ⟨S128x640, .i1⟩
  | 68 => ⟨S_, .i32⟩
  | 69 => ⟨S128x640, .i32⟩
  | 70 => ⟨S128x640, .i1⟩
  | 71 => ⟨S128x640, .i1⟩
  | 72 => ⟨S1x128x640, .i1⟩
  | 73 => ⟨S8x128x640, .f32⟩
  | 74 => ⟨S_, .f32⟩
  | 75 => ⟨S_, .f32⟩
  | 76 => ⟨S8x128x640, .i1⟩
  | 77 => ⟨S8x128x640, .f32⟩
  | 78 => ⟨S8x128x640, .f32⟩
  | 79 => ⟨S128x640, .i32⟩
  | 80 => ⟨S128x640, .i32⟩
  | 81 => ⟨S128x640, .i32⟩
  | 82 => ⟨S_, .i32⟩
  | 83 => ⟨S128x640, .i32⟩
  | 84 => ⟨S128x640, .i32⟩
  | 85 => ⟨S_, .i32⟩
  | 86 => ⟨S128x640, .i32⟩
  | 87 => ⟨S128x640, .i1⟩
  | 88 => ⟨S_, .i32⟩
  | 89 => ⟨S128x640, .i32⟩
  | 90 => ⟨S128x640, .i1⟩
  | 91 => ⟨S128x640, .i1⟩
  | 92 => ⟨S1x128x640, .i1⟩
  | 93 => ⟨S8x128x640, .f32⟩
  | 94 => ⟨S_, .f32⟩
  | 95 => ⟨S_, .f32⟩
  | 96 => ⟨S8x128x640, .i1⟩
  | 97 => ⟨S8x128x640, .f32⟩
  | 98 => ⟨S8x128x640, .f32⟩
  | 99 => ⟨S128x640, .i32⟩
  | 100 => ⟨S128x640, .i32⟩
  | 101 => ⟨S128x640, .i32⟩
  | 102 => ⟨S_, .i32⟩
  | 103 => ⟨S128x640, .i32⟩
  | 104 => ⟨S128x640, .i32⟩
  | 105 => ⟨S_, .i32⟩
  | 106 => ⟨S128x640, .i32⟩
  | 107 => ⟨S128x640, .i1⟩
  | 108 => ⟨S_, .i32⟩
  | 109 => ⟨S128x640, .i32⟩
  | 110 => ⟨S128x640, .i1⟩
  | 111 => ⟨S128x640, .i1⟩
  | 112 => ⟨S1x128x640, .i1⟩
  | 113 => ⟨S8x128x640, .f32⟩
  | 114 => ⟨S_, .f32⟩
  | 115 => ⟨S_, .f32⟩
  | 116 => ⟨S8x128x640, .i1⟩
  | 117 => ⟨S8x128x640, .f32⟩
  | 118 => ⟨S8x128x640, .f32⟩
  | 119 => ⟨S128x640, .i32⟩
  | 120 => ⟨S128x640, .i32⟩
  | 121 => ⟨S128x640, .i32⟩
  | 122 => ⟨S_, .i32⟩
  | 123 => ⟨S128x640, .i32⟩
  | 124 => ⟨S128x640, .i32⟩
  | 125 => ⟨S_, .i32⟩
  | 126 => ⟨S128x640, .i32⟩
  | 127 => ⟨S128x640, .i1⟩
  | _ => ⟨S16x2048x512, .bf16⟩

abbrev hbmTy0_3 (i : Nat) : BufTy := match i % 128 with
  | 0 => ⟨S_, .i32⟩
  | 1 => ⟨S128x640, .i32⟩
  | 2 => ⟨S128x640, .i1⟩
  | 3 => ⟨S128x640, .i1⟩
  | 4 => ⟨S1x128x640, .i1⟩
  | 5 => ⟨S8x128x640, .f32⟩
  | 6 => ⟨S_, .f32⟩
  | 7 => ⟨S_, .f32⟩
  | 8 => ⟨S8x128x640, .i1⟩
  | 9 => ⟨S8x128x640, .f32⟩
  | 10 => ⟨S8x128x640, .f32⟩
  | 11 => ⟨S128x640, .i32⟩
  | 12 => ⟨S128x640, .i32⟩
  | 13 => ⟨S128x640, .i32⟩
  | 14 => ⟨S_, .i32⟩
  | 15 => ⟨S128x640, .i32⟩
  | 16 => ⟨S128x640, .i32⟩
  | 17 => ⟨S_, .i32⟩
  | 18 => ⟨S128x640, .i32⟩
  | 19 => ⟨S128x640, .i1⟩
  | 20 => ⟨S_, .i32⟩
  | 21 => ⟨S128x640, .i32⟩
  | 22 => ⟨S128x640, .i1⟩
  | 23 => ⟨S128x640, .i1⟩
  | 24 => ⟨S1x128x640, .i1⟩
  | 25 => ⟨S8x128x640, .f32⟩
  | 26 => ⟨S_, .f32⟩
  | 27 => ⟨S_, .f32⟩
  | 28 => ⟨S8x128x640, .i1⟩
  | 29 => ⟨S8x128x640, .f32⟩
  | 30 => ⟨S8x128x640, .f32⟩
  | 31 => ⟨S1x8x128x640, .f32⟩
  | 32 => ⟨S1x8x128x640, .f32⟩
  | 33 => ⟨S1x8x128x640, .f32⟩
  | 34 => ⟨S1x8x128x640, .f32⟩
  | 35 => ⟨S1x8x128x640, .f32⟩
  | 36 => ⟨S5x8x128x640, .f32⟩
  | 37 => ⟨S16x2048x512, .f32⟩
  | _ => ⟨S16x2048x512, .bf16⟩

abbrev hbmTy (i : Nat) : BufTy := match i / 128 with
  | 0 => hbmTy0_0 i
  | 1 => hbmTy0_1 i
  | 2 => hbmTy0_2 i
  | 3 => hbmTy0_3 i
  | _ => ⟨S16x2048x512, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x8x128x640, .f32⟩
  | .local _ .vmem, ⟨7, _⟩ => ⟨S1x8x128x640, .f32⟩
  | .local _ .vmem, ⟨8, _⟩ => ⟨S1x128x512, .f32⟩
  | .local _ .vmem, ⟨9, _⟩ => ⟨S1x128x512, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩
abbrev main_v222 : Ref sig .tc := ⟨.hbm, 226, rfl⟩
abbrev main_v223 : Ref sig .tc := ⟨.hbm, 227, rfl⟩
abbrev main_v224 : Ref sig .tc := ⟨.hbm, 228, rfl⟩
abbrev main_v225 : Ref sig .tc := ⟨.hbm, 229, rfl⟩
abbrev main_v226 : Ref sig .tc := ⟨.hbm, 230, rfl⟩
abbrev main_v227 : Ref sig .tc := ⟨.hbm, 231, rfl⟩
abbrev main_v228 : Ref sig .tc := ⟨.hbm, 232, rfl⟩
abbrev main_v229 : Ref sig .tc := ⟨.hbm, 233, rfl⟩
abbrev main_v230 : Ref sig .tc := ⟨.hbm, 234, rfl⟩
abbrev main_v231 : Ref sig .tc := ⟨.hbm, 235, rfl⟩
abbrev main_v232 : Ref sig .tc := ⟨.hbm, 236, rfl⟩
abbrev main_v233 : Ref sig .tc := ⟨.hbm, 237, rfl⟩
abbrev main_v234 : Ref sig .tc := ⟨.hbm, 238, rfl⟩
abbrev main_v235 : Ref sig .tc := ⟨.hbm, 239, rfl⟩
abbrev main_v236 : Ref sig .tc := ⟨.hbm, 240, rfl⟩
abbrev main_v237 : Ref sig .tc := ⟨.hbm, 241, rfl⟩
abbrev main_v238 : Ref sig .tc := ⟨.hbm, 242, rfl⟩
abbrev main_v239 : Ref sig .tc := ⟨.hbm, 243, rfl⟩
abbrev main_v240 : Ref sig .tc := ⟨.hbm, 244, rfl⟩
abbrev main_v241 : Ref sig .tc := ⟨.hbm, 245, rfl⟩
abbrev main_v242 : Ref sig .tc := ⟨.hbm, 246, rfl⟩
abbrev main_v243 : Ref sig .tc := ⟨.hbm, 247, rfl⟩
abbrev main_v244 : Ref sig .tc := ⟨.hbm, 248, rfl⟩
abbrev main_v245 : Ref sig .tc := ⟨.hbm, 249, rfl⟩
abbrev main_v246 : Ref sig .tc := ⟨.hbm, 250, rfl⟩
abbrev main_v247 : Ref sig .tc := ⟨.hbm, 251, rfl⟩
abbrev main_v248 : Ref sig .tc := ⟨.hbm, 252, rfl⟩
abbrev main_v249 : Ref sig .tc := ⟨.hbm, 253, rfl⟩
abbrev main_v250 : Ref sig .tc := ⟨.hbm, 254, rfl⟩
abbrev main_v251 : Ref sig .tc := ⟨.hbm, 255, rfl⟩
abbrev main_v252 : Ref sig .tc := ⟨.hbm, 256, rfl⟩
abbrev main_v253 : Ref sig .tc := ⟨.hbm, 257, rfl⟩
abbrev main_v254 : Ref sig .tc := ⟨.hbm, 258, rfl⟩
abbrev main_v255 : Ref sig .tc := ⟨.hbm, 259, rfl⟩
abbrev main_v256 : Ref sig .tc := ⟨.hbm, 260, rfl⟩
abbrev main_v257 : Ref sig .tc := ⟨.hbm, 261, rfl⟩
abbrev main_v258 : Ref sig .tc := ⟨.hbm, 262, rfl⟩
abbrev main_v259 : Ref sig .tc := ⟨.hbm, 263, rfl⟩
abbrev main_v260 : Ref sig .tc := ⟨.hbm, 264, rfl⟩
abbrev main_v261 : Ref sig .tc := ⟨.hbm, 265, rfl⟩
abbrev main_v262 : Ref sig .tc := ⟨.hbm, 266, rfl⟩
abbrev main_v263 : Ref sig .tc := ⟨.hbm, 267, rfl⟩
abbrev main_v264 : Ref sig .tc := ⟨.hbm, 268, rfl⟩
abbrev main_v265 : Ref sig .tc := ⟨.hbm, 269, rfl⟩
abbrev main_v266 : Ref sig .tc := ⟨.hbm, 270, rfl⟩
abbrev main_v267 : Ref sig .tc := ⟨.hbm, 271, rfl⟩
abbrev main_v268 : Ref sig .tc := ⟨.hbm, 272, rfl⟩
abbrev main_v269 : Ref sig .tc := ⟨.hbm, 273, rfl⟩
abbrev main_v270 : Ref sig .tc := ⟨.hbm, 274, rfl⟩
abbrev main_v271 : Ref sig .tc := ⟨.hbm, 275, rfl⟩
abbrev main_v272 : Ref sig .tc := ⟨.hbm, 276, rfl⟩
abbrev main_c : Ref sig .tc := ⟨.hbm, 277, rfl⟩
abbrev main_call0_v0 : Ref sig .tc := ⟨.hbm, 278, rfl⟩
abbrev main_call0_v1 : Ref sig .tc := ⟨.hbm, 279, rfl⟩
abbrev main_call0_v2 : Ref sig .tc := ⟨.hbm, 280, rfl⟩
abbrev main_call0_v3 : Ref sig .tc := ⟨.hbm, 281, rfl⟩
abbrev main_call0_v4 : Ref sig .tc := ⟨.hbm, 282, rfl⟩
abbrev main_call0_v5 : Ref sig .tc := ⟨.hbm, 283, rfl⟩
abbrev main_call0_v6 : Ref sig .tc := ⟨.hbm, 284, rfl⟩
abbrev main_call0_v7 : Ref sig .tc := ⟨.hbm, 285, rfl⟩
abbrev main_call0_v8 : Ref sig .tc := ⟨.hbm, 286, rfl⟩
abbrev main_call0_c : Ref sig .tc := ⟨.hbm, 287, rfl⟩
abbrev main_call0_v9 : Ref sig .tc := ⟨.hbm, 288, rfl⟩
abbrev main_call0_v10 : Ref sig .tc := ⟨.hbm, 289, rfl⟩
abbrev main_call0_v11 : Ref sig .tc := ⟨.hbm, 290, rfl⟩
abbrev main_call0_c_0 : Ref sig .tc := ⟨.hbm, 291, rfl⟩
abbrev main_call0_v12 : Ref sig .tc := ⟨.hbm, 292, rfl⟩
abbrev main_call0_v13 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_c_0 : Ref sig .tc := ⟨.hbm, 297, rfl⟩
abbrev main_call1_v0 : Ref sig .tc := ⟨.hbm, 298, rfl⟩
abbrev main_call1_v1 : Ref sig .tc := ⟨.hbm, 299, rfl⟩
abbrev main_call1_v2 : Ref sig .tc := ⟨.hbm, 300, rfl⟩
abbrev main_call1_v3 : Ref sig .tc := ⟨.hbm, 301, rfl⟩
abbrev main_call1_v4 : Ref sig .tc := ⟨.hbm, 302, rfl⟩
abbrev main_call1_v5 : Ref sig .tc := ⟨.hbm, 303, rfl⟩
abbrev main_call1_v6 : Ref sig .tc := ⟨.hbm, 304, rfl⟩
abbrev main_call1_v7 : Ref sig .tc := ⟨.hbm, 305, rfl⟩
abbrev main_call1_v8 : Ref sig .tc := ⟨.hbm, 306, rfl⟩
abbrev main_call1_c : Ref sig .tc := ⟨.hbm, 307, rfl⟩
abbrev main_call1_v9 : Ref sig .tc := ⟨.hbm, 308, rfl⟩
abbrev main_call1_v10 : Ref sig .tc := ⟨.hbm, 309, rfl⟩
abbrev main_call1_v11 : Ref sig .tc := ⟨.hbm, 310, rfl⟩
abbrev main_call1_c_0 : Ref sig .tc := ⟨.hbm, 311, rfl⟩
abbrev main_call1_v12 : Ref sig .tc := ⟨.hbm, 312, rfl⟩
abbrev main_call1_v13 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_c_1 : Ref sig .tc := ⟨.hbm, 318, rfl⟩
abbrev main_v280 : Ref sig .tc := ⟨.hbm, 319, rfl⟩
abbrev main_v281 : Ref sig .tc := ⟨.hbm, 320, rfl⟩
abbrev main_c_2 : Ref sig .tc := ⟨.hbm, 321, rfl⟩
abbrev main_v282 : Ref sig .tc := ⟨.hbm, 322, rfl⟩
abbrev main_v283 : Ref sig .tc := ⟨.hbm, 323, rfl⟩
abbrev main_c_3 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_cst : Ref sig .tc := ⟨.hbm, 330, rfl⟩
abbrev main_call2_v0 : Ref sig .tc := ⟨.hbm, 331, rfl⟩
abbrev main_call2_v1 : Ref sig .tc := ⟨.hbm, 332, rfl⟩
abbrev main_call2_v2 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_c_4 : Ref sig .tc := ⟨.hbm, 338, rfl⟩
abbrev main_v293 : Ref sig .tc := ⟨.hbm, 339, rfl⟩
abbrev main_v294 : Ref sig .tc := ⟨.hbm, 340, rfl⟩
abbrev main_c_5 : Ref sig .tc := ⟨.hbm, 341, rfl⟩
abbrev main_v295 : Ref sig .tc := ⟨.hbm, 342, rfl⟩
abbrev main_v296 : Ref sig .tc := ⟨.hbm, 343, rfl⟩
abbrev main_c_6 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_cst_7 : Ref sig .tc := ⟨.hbm, 350, rfl⟩
abbrev main_call3_v0 : Ref sig .tc := ⟨.hbm, 351, rfl⟩
abbrev main_call3_v1 : Ref sig .tc := ⟨.hbm, 352, rfl⟩
abbrev main_call3_v2 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_c_8 : Ref sig .tc := ⟨.hbm, 358, rfl⟩
abbrev main_v306 : Ref sig .tc := ⟨.hbm, 359, rfl⟩
abbrev main_v307 : Ref sig .tc := ⟨.hbm, 360, rfl⟩
abbrev main_c_9 : Ref sig .tc := ⟨.hbm, 361, rfl⟩
abbrev main_v308 : Ref sig .tc := ⟨.hbm, 362, rfl⟩
abbrev main_v309 : Ref sig .tc := ⟨.hbm, 363, rfl⟩
abbrev main_c_10 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_cst_11 : Ref sig .tc := ⟨.hbm, 370, rfl⟩
abbrev main_call4_v0 : Ref sig .tc := ⟨.hbm, 371, rfl⟩
abbrev main_call4_v1 : Ref sig .tc := ⟨.hbm, 372, rfl⟩
abbrev main_call4_v2 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_c_12 : Ref sig .tc := ⟨.hbm, 378, rfl⟩
abbrev main_v319 : Ref sig .tc := ⟨.hbm, 379, rfl⟩
abbrev main_v320 : Ref sig .tc := ⟨.hbm, 380, rfl⟩
abbrev main_c_13 : Ref sig .tc := ⟨.hbm, 381, rfl⟩
abbrev main_v321 : Ref sig .tc := ⟨.hbm, 382, rfl⟩
abbrev main_v322 : Ref sig .tc := ⟨.hbm, 383, rfl⟩
abbrev main_c_14 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_cst_15 : Ref sig .tc := ⟨.hbm, 390, rfl⟩
abbrev main_call5_v0 : Ref sig .tc := ⟨.hbm, 391, rfl⟩
abbrev main_call5_v1 : Ref sig .tc := ⟨.hbm, 392, rfl⟩
abbrev main_call5_v2 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_c_16 : Ref sig .tc := ⟨.hbm, 398, rfl⟩
abbrev main_v332 : Ref sig .tc := ⟨.hbm, 399, rfl⟩
abbrev main_v333 : Ref sig .tc := ⟨.hbm, 400, rfl⟩
abbrev main_c_17 : Ref sig .tc := ⟨.hbm, 401, rfl⟩
abbrev main_v334 : Ref sig .tc := ⟨.hbm, 402, rfl⟩
abbrev main_v335 : Ref sig .tc := ⟨.hbm, 403, rfl⟩
abbrev main_c_18 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_cst_19 : Ref sig .tc := ⟨.hbm, 410, rfl⟩
abbrev main_call6_v0 : Ref sig .tc := ⟨.hbm, 411, rfl⟩
abbrev main_call6_v1 : Ref sig .tc := ⟨.hbm, 412, rfl⟩
abbrev main_call6_v2 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c128_i32 : BitVec 32 := 128#32
  let v2 : BitVec 32 := Scalar.muli v1 c128_i32
  v2
def k0_off1 (i : grid0.Coords) : Fin 3 → Nat :=
  let c0_3 : Index := 0#32
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v24 : Index := Scalar.indexCast v3
  let c0_4 : Index := 0#32
  ![0, v24.toNat, 0]
def k0_off2 (i : grid0.Coords) : Fin 3 → Nat :=
  let c0_12 : Index := 0#32
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v40 : Index := Scalar.indexCast v3
  let c128 : Index := 128#32
  ![0, v40.toNat, 128]
def k0_off3 (i : grid0.Coords) : Fin 3 → Nat :=
  let c0_20 : Index := 0#32
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v56 : Index := Scalar.indexCast v3
  let c256 : Index := 256#32
  ![0, v56.toNat, 256]
def k0_off4 (i : grid0.Coords) : Fin 3 → Nat :=
  let c0_28 : Index := 0#32
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v72 : Index := Scalar.indexCast v3
  let c384 : Index := 384#32
  ![0, v72.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x512 : Shape := ⟨3, ![16, 2048, 512]⟩
abbrev S1x8x257 : Shape := ⟨3, ![1, 8, 257]⟩
abbrev S8x257 : Shape := ⟨2, ![8, 257]⟩
abbrev S16x2048x8x64 : Shape := ⟨4, ![16, 2048, 8, 64]⟩
abbrev S16x8x2048x64 : Shape := ⟨4, ![16, 8, 2048, 64]⟩
abbrev S_ : Shape := ⟨0, ![]⟩
abbrev S16x8x2560x64 : Shape := ⟨4, ![16, 8, 2560, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x4 : Shape := ⟨2, ![32, 4]⟩
abbrev S32x16x8x64x64 : Shape := ⟨5, ![32, 16, 8, 64, 64]⟩
abbrev S32x16x8x576x64 : Shape := ⟨5, ![32, 16, 8, 576, 64]⟩
abbrev S32x16x8x64x576 : Shape := ⟨5, ![32, 16, 8, 64, 576]⟩
abbrev S1x8x64x576 : Shape := ⟨4, ![1, 8, 64, 576]⟩
abbrev S1x1x8x64x576 : Shape := ⟨5, ![1, 1, 8, 64, 576]⟩
abbrev S32x576 : Shape := ⟨2, ![32, 576]⟩
abbrev S16x8x64x576 : Shape := ⟨4, ![16, 8, 64, 576]⟩
abbrev S32x16x8x64 : Shape := ⟨4, ![32, 16, 8, 64]⟩
abbrev S32x16x8x64x1 : Shape := ⟨5, ![32, 16, 8, 64, 1]⟩
abbrev S16x32x64x8x64 : Shape := ⟨5, ![16, 32, 64, 8, 64]⟩

abbrev nBuf : Space → Nat
  | .hbm => 138
  | .vmem => 0
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S1x8x257, .f32⟩
  | 4 => ⟨S8x257, .f32⟩
  | 5 => ⟨S16x2048x512, .f32⟩
  | 6 => ⟨S16x2048x8x64, .f32⟩
  | 7 => ⟨S16x8x2048x64, .f32⟩
  | 8 => ⟨S16x2048x512, .f32⟩
  | 9 => ⟨S16x2048x8x64, .f32⟩
  | 10 => ⟨S16x8x2048x64, .f32⟩
  | 11 => ⟨S16x2048x512, .f32⟩
  | 12 => ⟨S16x2048x8x64, .f32⟩
  | 13 => ⟨S16x8x2048x64, .f32⟩
  | 14 => ⟨S_, .i32⟩
  | 15 => ⟨S_, .f32⟩
  | 16 => ⟨S16x8x2560x64, .f32⟩
  | 17 => ⟨S_, .i32⟩
  | 18 => ⟨S_, .f32⟩
  | 19 => ⟨S16x8x2560x64, .f32⟩
  | 20 => ⟨S64, .i32⟩
  | 21 => ⟨S64x1, .i32⟩
  | 22 => ⟨S576, .i32⟩
  | 23 => ⟨S_, .i32⟩
  | 24 => ⟨S576, .i32⟩
  | 25 => ⟨S576, .i32⟩
  | 26 => ⟨S1x576, .i32⟩
  | 27 => ⟨S64x576, .i32⟩
  | 28 => ⟨S64x576, .i32⟩
  | 29 => ⟨S64x576, .i32⟩
  | 30 => ⟨S_, .i32⟩
  | 31 => ⟨S_, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i32⟩
  | 38 => ⟨S_, .i32⟩
  | 39 => ⟨S64x576, .i32⟩
  | 40 => ⟨S64x576, .i32⟩
  | 41 => ⟨S_, .i32⟩
  | 42 => ⟨S64x576, .i32⟩
  | 43 => ⟨S64x576, .i1⟩
  | 44 => ⟨S_, .i32⟩
  | 45 => ⟨S64x576, .i32⟩
  | 46 => ⟨S64x576, .i32⟩
  | 47 => ⟨S64x576, .i32⟩
  | 48 => ⟨S64x576x1, .i32⟩
  | 49 => ⟨S8x64x576, .f32⟩
  | 50 => ⟨S32, .i32⟩
  | 51 => ⟨S_, .i32⟩
  | 52 => ⟨S32, .i32⟩
  | 53 => ⟨S32, .i32⟩
  | 54 => ⟨S_, .i32⟩
  | 55 => ⟨S32, .i32⟩
  | 56 => ⟨S32, .i1⟩
  | 57 => ⟨S_, .i32⟩
  | 58 => ⟨S32, .i32⟩
  | 59 => ⟨S32, .i32⟩
  | 60 => ⟨S32, .i32⟩
  | 61 => ⟨S_, .i32⟩
  | 62 => ⟨S32x1, .i32⟩
  | 63 => ⟨S_, .i32⟩
  | 64 => ⟨S32x1, .i32⟩
  | 65 => ⟨S32x1, .i32⟩
  | 66 => ⟨S_, .i32⟩
  | 67 => ⟨S32x1, .i32⟩
  | 68 => ⟨S32x4, .i32⟩
  | 69 => ⟨S32x16x8x64x64, .f32⟩
  | 70 => ⟨S_, .i32⟩
  | 71 => ⟨S32, .i32⟩
  | 72 => ⟨S32, .i1⟩
  | 73 => ⟨S_, .i32⟩
  | 74 => ⟨S32, .i32⟩
  | 75 => ⟨S32, .i32⟩
  | 76 => ⟨S32, .i32⟩
  | 77 => ⟨S_, .i32⟩
  | 78 => ⟨S32x1, .i32⟩
  | 79 => ⟨S_, .i32⟩
  | 80 => ⟨S32x1, .i32⟩
  | 81 => ⟨S32x1, .i32⟩
  | 82 => ⟨S_, .i32⟩
  | 83 => ⟨S32x1, .i32⟩
  | 84 => ⟨S32x4, .i32⟩
  | 85 => ⟨S32x16x8x576x64, .f32⟩
  | 86 => ⟨S_, .i32⟩
  | 87 => ⟨S32, .i32⟩
  | 88 => ⟨S32, .i1⟩
  | 89 => ⟨S_, .i32⟩
  | 90 => ⟨S32, .i32⟩
  | 91 => ⟨S32, .i32⟩
  | 92 => ⟨S32, .i32⟩
  | 93 => ⟨S_, .i32⟩
  | 94 => ⟨S32x1, .i32⟩
  | 95 => ⟨S_, .i32⟩
  | 96 => ⟨S32x1, .i32⟩
  | 97 => ⟨S32x1, .i32⟩
  | 98 => ⟨S_, .i32⟩
  | 99 => ⟨S32x1, .i32⟩
  | 100 => ⟨S32x4, .i32⟩
  | 101 => ⟨S32x16x8x576x64, .f32⟩
  | 102 => ⟨S32x16x8x64x576, .f32⟩
  | 103 => ⟨S1x8x64x576, .f32⟩
  | 104 => ⟨S1x1x8x64x576, .f32⟩
  | 105 => ⟨S32x16x8x64x576, .f32⟩
  | 106 => ⟨S32x16x8x64x576, .f32⟩
  | 107 => ⟨S1x576, .i32⟩
  | 108 => ⟨S32x1, .i32⟩
  | 109 => ⟨S32x576, .i32⟩
  | 110 => ⟨S32x576, .i32⟩
  | 111 => ⟨S32x576, .i32⟩
  | 112 => ⟨S_, .i32⟩
  | 113 => ⟨S32x576, .i32⟩
  | 114 => ⟨S32x576, .i1⟩
  | 115 => ⟨S_, .f32⟩
  | 116 => ⟨S_, .f32⟩
  | 117 => ⟨S32x16x8x64x576, .i1⟩
  | 118 => ⟨S16x8x64x576, .f32⟩
  | 119 => ⟨S32x16x8x64x576, .f32⟩
  | 120 => ⟨S32x16x8x64x576, .f32⟩
  | 121 => ⟨S_, .f32⟩
  | 122 => ⟨S32x16x8x64, .f32⟩
  | 123 => ⟨S_, .f32⟩
  | 124 => ⟨S32x16x8x64, .f32⟩
  | 125 => ⟨S32x16x8x64, .f32⟩
  | 126 => ⟨S32x16x8x64x1, .f32⟩
  | 127 => ⟨S32x16x8x64x576, .f32⟩
  | _ => ⟨S16x2048x512, .bf16⟩

abbrev hbmTy0_1 (i : Nat) : BufTy := match i % 128 with
  | 0 => ⟨S32x16x8x64x576, .f32⟩
  | 1 => ⟨S32x16x8x64x576, .f32⟩
  | 2 => ⟨S_, .f32⟩
  | 3 => ⟨S32x16x8x64, .f32⟩
  | 4 => ⟨S32x16x8x64x1, .f32⟩
  | 5 => ⟨S32x16x8x64x576, .f32⟩
  | 6 => ⟨S32x16x8x64x576, .f32⟩
  | 7 => ⟨S32x16x8x64x64, .f32⟩
  | 8 => ⟨S16x32x64x8x64, .f32⟩
  | 9 => ⟨S16x2048x512, .f32⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_13 : Ref sig .tc := ⟨.hbm, 70, rfl⟩
abbrev main_v45 : Ref sig .tc := ⟨.hbm, 71, rfl⟩
abbrev main_v46 : Ref sig .tc := ⟨.hbm, 72, rfl⟩
abbrev main_c_14 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_15 : Ref sig .tc := ⟨.hbm, 77, rfl⟩
abbrev main_v50 : Ref sig .tc := ⟨.hbm, 78, rfl⟩
abbrev main_c_16 : Ref sig .tc := ⟨.hbm, 79, rfl⟩
abbrev main_v51 : Ref sig .tc := ⟨.hbm, 80, rfl⟩
abbrev main_v52 : Ref sig .tc := ⟨.hbm, 81, rfl⟩
abbrev main_c_17 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_18 : Ref sig .tc := ⟨.hbm, 86, rfl⟩
abbrev main_v56 : Ref sig .tc := ⟨.hbm, 87, rfl⟩
abbrev main_v57 : Ref sig .tc := ⟨.hbm, 88, rfl⟩
abbrev main_c_19 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_20 : Ref sig .tc := ⟨.hbm, 93, rfl⟩
abbrev main_v61 : Ref sig .tc := ⟨.hbm, 94, rfl⟩
abbrev main_c_21 : Ref sig .tc := ⟨.hbm, 95, rfl⟩
abbrev main_v62 : Ref sig .tc := ⟨.hbm, 96, rfl⟩
abbrev main_v63 : Ref sig .tc := ⟨.hbm, 97, rfl⟩
abbrev main_c_22 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_23 : Ref sig .tc := ⟨.hbm, 112, rfl⟩
abbrev main_v77 : Ref sig .tc := ⟨.hbm, 113, rfl⟩
abbrev main_v78 : Ref sig .tc := ⟨.hbm, 114, rfl⟩
abbrev main_cst : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_v79 : Ref sig .tc := ⟨.hbm, 120, rfl⟩
abbrev main_cst_24 : Ref sig .tc := ⟨.hbm, 121, rfl⟩
abbrev main_v80 : Ref sig .tc := ⟨.hbm, 122, rfl⟩
abbrev main_cst_25 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_26 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S16x1024 : Shape := ⟨2, ![16, 1024]⟩
abbrev S1x1024x5376 : Shape := ⟨3, ![1, 1024, 5376]⟩
abbrev S1x64 : Shape := ⟨2, ![1, 64]⟩
abbrev S128x128 : Shape := ⟨2, ![128, 128]⟩
abbrev S1024 : Shape := ⟨1, ![1024]⟩
abbrev S1024x5376 : Shape := ⟨2, ![1024, 5376]⟩
abbrev S64 : Shape := ⟨1, ![64]⟩
abbrev S16x1x1024 : Shape := ⟨3, ![16, 1, 1024]⟩
abbrev S8x64 : Shape := ⟨2, ![8, 64]⟩
abbrev S512 : Shape := ⟨1, ![512]⟩
abbrev S_ : Shape := ⟨0, ![]⟩
abbrev S1x512 : Shape := ⟨2, ![1, 512]⟩
abbrev S16x2048x1792 : Shape := ⟨3, ![16, 2048, 1792]⟩
abbrev S16x2048x512 : Shape := ⟨3, ![16, 2048, 512]⟩
abbrev S16x2048x2048 : Shape := ⟨3, ![16, 2048, 2048]⟩
abbrev S1x256x1024 : Shape := ⟨3, ![1, 256, 1024]⟩
abbrev S1x1x1024 : Shape := ⟨3, ![1, 1, 1024]⟩
abbrev S1x256x1792 : Shape := ⟨3, ![1, 256, 1792]⟩
abbrev S1x256x512 : Shape := ⟨3, ![1, 256, 512]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩
abbrev S1024x1536 : Shape := ⟨2, ![1024, 1536]⟩
abbrev S256x1536 : Shape := ⟨2, ![256, 1536]⟩
abbrev S256x512 : Shape := ⟨2, ![256, 512]⟩
abbrev S256x128 : Shape := ⟨2, ![256, 128]⟩
abbrev S1024x2048 : Shape := ⟨2, ![1024, 2048]⟩
abbrev S256x2048 : Shape := ⟨2, ![256, 2048]⟩

abbrev nBuf : Space → Nat
  | .hbm => 35
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S1x1024x5376, .f32⟩
  | .hbm, ⟨5, _⟩ => ⟨S1x64, .f32⟩
  | .hbm, ⟨6, _⟩ => ⟨S1x64, .f32⟩
  | .hbm, ⟨7, _⟩ => ⟨S128x128, .bf16⟩
  | .hbm, ⟨8, _⟩ => ⟨S1024, .f32⟩
  | .hbm, ⟨9, _⟩ => ⟨S1024x5376, .f32⟩
  | .hbm, ⟨10, _⟩ => ⟨S1024x5376, .bf16⟩
  | .hbm, ⟨11, _⟩ => ⟨S64, .f32⟩
  | .hbm, ⟨12, _⟩ => ⟨S64, .f32⟩
  | .hbm, ⟨13, _⟩ => ⟨S1x1024, .f32⟩
  | .hbm, ⟨14, _⟩ => ⟨S16x1x1024, .f32⟩
  | .hbm, ⟨15, _⟩ => ⟨S16x1x1024, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S16x2048x1792, .f32⟩
  | .hbm, ⟨31, _⟩ => ⟨S16x2048x512, .bf16⟩
  | .hbm, ⟨32, _⟩ => ⟨S16x2048x512, .bf16⟩
  | .hbm, ⟨33, _⟩ => ⟨S16x2048x512, .bf16⟩
  | .hbm, ⟨34, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5376, .bf16⟩
  | .local _ .vmem, ⟨8, _⟩ => ⟨S1x512, .f32⟩
  | .local _ .vmem, ⟨9, _⟩ => ⟨S1x512, .f32⟩
  | .local _ .vmem, ⟨10, _⟩ => ⟨S128x128, .bf16⟩
  | .local _ .vmem, ⟨11, _⟩ => ⟨S1x256x1792, .f32⟩
  | .local _ .vmem, ⟨12, _⟩ => ⟨S1x256x1792, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x2048, .f32⟩
  | .local _ .vmem, ⟨20, _⟩ => ⟨S1x256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S1x1024 : Shape := ⟨2, ![1, 1024]⟩
abbrev S16x1024 : Shape := ⟨2, ![16, 1024]⟩
abbrev S1x1024x5376 : Shape := ⟨3, ![1, 1024, 5376]⟩
abbrev S1x64 : Shape := ⟨2, ![1, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1024x5376 : Shape := ⟨2, ![1024, 5376]⟩
abbrev S16x2048x5376 : Shape := ⟨3, ![16, 2048, 5376]⟩
abbrev S16x2048x1792 : Shape := ⟨3, ![16, 2048, 1792]⟩
abbrev S16x2048x1536 : Shape := ⟨3, ![16, 2048, 1536]⟩
abbrev S16x2048x2048 : Shape := ⟨3, ![16, 2048, 2048]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S64 : Shape := ⟨1, ![64]⟩
abbrev S16x8x2048 : Shape := ⟨3, ![16, 8, 2048]⟩
abbrev S16x8x2048x1 : Shape := ⟨4, ![16, 8, 2048, 1]⟩
abbrev S1x1x1x64 : Shape := ⟨4, ![1, 1, 1, 64]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S1x1024x5376, .f32⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S1024x5376, .f32⟩
  | .hbm, ⟨34, _⟩ => ⟨S16x2048x5376, .f32⟩
  | .hbm, ⟨35, _⟩ => ⟨S16x2048x1792, .f32⟩
  | .hbm, ⟨36, _⟩ => ⟨S16x2048x1536, .f32⟩
  | .hbm, ⟨37, _⟩ => ⟨S16x2048x2048, .f32⟩
  | .hbm, ⟨38, _⟩ => ⟨S16x2048x512, .f32⟩
  | .hbm, ⟨39, _⟩ => ⟨S16x2048x8x64, .f32⟩
  | .hbm, ⟨40, _⟩ => ⟨S16x8x2048x64, .f32⟩
  | .hbm, ⟨41, _⟩ => ⟨S16x2048x512, .f32⟩
  | .hbm, ⟨42, _⟩ => ⟨S16x2048x8x64, .f32⟩
  | .hbm, ⟨43, _⟩ => ⟨S16x8x2048x64, .f32⟩
  | .hbm, ⟨44, _⟩ => ⟨S16x2048x512, .f32⟩
  | .hbm, ⟨45, _⟩ => ⟨S16x2048x8x64, .f32⟩
  | .hbm, ⟨46, _⟩ => ⟨S16x8x2048x64, .f32⟩
  | .hbm, ⟨47, _⟩ => ⟨S64, .f32⟩
  | .hbm, ⟨48, _⟩ => ⟨S16x8x2048x64, .f32⟩
  | .hbm, ⟨49, _⟩ => ⟨S_, .f32⟩
  | .hbm, ⟨50, _⟩ => ⟨S16x8x2048, .f32⟩
  | .hbm, ⟨51, _⟩ => ⟨S16x8x2048x1, .f32⟩
  | .hbm, ⟨52, _⟩ => ⟨S_, .f32⟩
  | .hbm, ⟨53, _⟩ => ⟨S16x8x2048x1, .f32⟩
  | .hbm, ⟨54, _⟩ => ⟨S16x8x2048x1, .f32⟩
  | .hbm, ⟨55, _⟩ => ⟨S_, .f32⟩
  | .hbm, ⟨56, _⟩ => ⟨S16x8x2048x1, .f32⟩
  | .hbm, ⟨57, _⟩ => ⟨S16x8x2048x1, .f32⟩
  | .hbm, ⟨58, _⟩ => ⟨S16x8x2048x1, .f32⟩
  | .hbm, ⟨59, _⟩ => ⟨S16x8x2048x64, .f32⟩
  | .hbm, ⟨60, _⟩ => ⟨S16x8x2048x64, .f32⟩
  | .hbm, ⟨61, _⟩ => ⟨S1x1x1x64, .f32⟩
  | .hbm, ⟨62, _⟩ => ⟨S16x8x2048x64, .f32⟩
  | .hbm, ⟨63, _⟩ => ⟨S16x8x2048x64, .f32⟩
  | .hbm, ⟨64, _⟩ => ⟨S_, .f32⟩
  | .hbm, ⟨65, _⟩ => ⟨S16x8x2048x64, .f32⟩
  | .hbm, ⟨66, _⟩ => ⟨S16x8x2048x64, .f32⟩
  | .hbm, ⟨67, _⟩ => ⟨S64, .f32⟩
  | .hbm, ⟨68, _⟩ => ⟨S16x8x2048x64, .f32⟩
  | .hbm, ⟨69, _⟩ => ⟨S_, .f32⟩
  | .hbm, ⟨70, _⟩ => ⟨S16x8x2048, .f32⟩
  | .hbm, ⟨71, _⟩ => ⟨S16x8x2048x1, .f32⟩
  | .hbm, ⟨72, _⟩ => ⟨S_, .f32⟩
  | .hbm, ⟨73, _⟩ => ⟨S16x8x2048x1, .f32⟩
  | .hbm, ⟨74, _⟩ => ⟨S16x8x2048x1, .f32⟩
  | .hbm, ⟨75, _⟩ => ⟨S_, .f32⟩
  | .hbm, ⟨76, _⟩ => ⟨S16x8x2048x1, .f32⟩
  | .hbm, ⟨77, _⟩ => ⟨S16x8x2048x1, .f32⟩
  | .hbm, ⟨78, _⟩ => ⟨S16x8x2048x1, .f32⟩
  | .hbm, ⟨79, _⟩ => ⟨S16x8x2048x64, .f32⟩
  | .hbm, ⟨80, _⟩ => ⟨S16x8x2048x64, .f32⟩
  | .hbm, ⟨81, _⟩ => ⟨S1x1x1x64, .f32⟩
  | .hbm, ⟨82, _⟩ => ⟨S16x8x2048x64, .f32⟩
  | .hbm, ⟨83, _⟩ => ⟨S16x8x2048x64, .f32⟩
  | .hbm, ⟨84, _⟩ => ⟨S16x2048x8x64, .f32⟩
  | .hbm, ⟨85, _⟩ => ⟨S16x2048x512, .f32⟩
  | .hbm, ⟨86, _⟩ => ⟨S16x2048x512, .bf16⟩
  | .hbm, ⟨87, _⟩ => ⟨S16x2048x8x64, .f32⟩
  | .hbm, ⟨88, _⟩ => ⟨S16x2048x512, .f32⟩
  | .hbm, ⟨89, _⟩ => ⟨S16x2048x512, .bf16⟩
  | .hbm, ⟨90, _⟩ => ⟨S16x2048x8x64, .f32⟩
  | .hbm, ⟨91, _⟩ => ⟨S16x2048x512, .f32⟩
  | .hbm, ⟨92, _⟩ => ⟨S16x2048x512, .bf16⟩
  | .hbm, ⟨93, _⟩ => ⟨S16x2048x2048, .f32⟩
  | .hbm, ⟨94, _⟩ => ⟨S16x2048x2048, .f32⟩
  | .hbm, ⟨95, _⟩ => ⟨S_, .f32⟩
  | .hbm, ⟨96, _⟩ => ⟨S16x2048x2048, .f32⟩
  | .hbm, ⟨97, _⟩ => ⟨S16x2048x2048, .f32⟩
  | .hbm, ⟨98, _⟩ => ⟨S_, .f32⟩
  | .hbm, ⟨99, _⟩ => ⟨S16x2048x2048, .f32⟩
  | .hbm, ⟨100, _⟩ => ⟨S16x2048x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Kernel3.lean ====
abbrev S16x2048x512 : Shape := ⟨3, ![16, 2048, 512]⟩
abbrev S16x2048x2048 : Shape := ⟨3, ![16, 2048, 2048]⟩
abbrev S16x2048x1024 : Shape := ⟨3, ![16, 2048, 1024]⟩
abbrev S16x1024 : Shape := ⟨2, ![16, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S1024x128 : Shape := ⟨2, ![1024, 128]⟩
abbrev S1024x4 : Shape := ⟨2, ![1024, 4]⟩
abbrev S1 : Shape := ⟨1, ![1]⟩
abbrev S1024x32 : Shape := ⟨2, ![1024, 32]⟩
abbrev S1024x256 : Shape := ⟨2, ![1024, 256]⟩
abbrev S1x128 : Shape := ⟨2, ![1, 128]⟩
abbrev S4 : Shape := ⟨1, ![4]⟩
abbrev S2 : Shape := ⟨1, ![2]⟩
abbrev S32 : Shape := ⟨1, ![32]⟩
abbrev S1024 : Shape := ⟨1, ![1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x1x1024 : Shape := ⟨3, ![16, 1, 1024]⟩
abbrev S16x16384x128 : Shape := ⟨3, ![16, 16384, 128]⟩
abbrev S16x2048x128 : Shape := ⟨3, ![16, 2048, 128]⟩
abbrev S1x512x512 : Shape := ⟨3, ![1, 512, 512]⟩
abbrev S1x512x2048 : Shape := ⟨3, ![1, 512, 2048]⟩
abbrev S1x1x1024 : Shape := ⟨3, ![1, 1, 1024]⟩
abbrev S1x4096x128 : Shape := ⟨3, ![1, 4096, 128]⟩
abbrev S1x512x128 : Shape := ⟨3, ![1, 512, 128]⟩
abbrev S512x2048 : Shape := ⟨2, ![512, 2048]⟩
abbrev S512x128 : Shape := ⟨2, ![512, 128]⟩
abbrev S4096x128 : Shape := ⟨2, ![4096, 128]⟩
abbrev S512x256 : Shape := ⟨2, ![512, 256]⟩
abbrev S128 : Shape := ⟨1, ![128]⟩

abbrev nBuf : Space → Nat
  | .hbm => 69
  | .vmem => 28
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x2048, .f32⟩
  | .hbm, ⟨3, _⟩ => ⟨S16x2048x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1x1024, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024x4, .f32⟩
  | .hbm, ⟨12, _⟩ => ⟨S1x4, .f32⟩
  | .hbm, ⟨13, _⟩ => ⟨S1x1024x32, .f32⟩
  | .hbm, ⟨14, _⟩ => ⟨S1x32, .f32⟩
  | .hbm, ⟨15, _⟩ => ⟨S_, .f32⟩
  | .hbm, ⟨16, _⟩ => ⟨S1024x128, .f32⟩
  | .hbm, ⟨17, _⟩ => ⟨S1024x4, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x32, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x256, .bf16⟩
  | .hbm, ⟨30, _⟩ => ⟨S_, .f32⟩
  | .hbm, ⟨31, _⟩ => ⟨S1x128, .f32⟩
  | .hbm, ⟨32, _⟩ => ⟨S4, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S32, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S1x128, .f32⟩
  | .hbm, ⟨46, _⟩ => ⟨S1024, .f32⟩
  | .hbm, ⟨47, _⟩ => ⟨S512x1024, .f32⟩
  | .hbm, ⟨48, _⟩ => ⟨S512x1024, .bf16⟩
  | .hbm, ⟨49, _⟩ => ⟨S512x1024, .f32⟩
  | .hbm, ⟨50, _⟩ => ⟨S512x1024, .bf16⟩
  | .hbm, ⟨51, _⟩ => ⟨S1024x1024, .f32⟩
  | .hbm, ⟨52, _⟩ => ⟨S1024x1024, .bf16⟩
  | .hbm, ⟨53, _⟩ => ⟨S512, .i32⟩
  | .hbm, ⟨54, _⟩ => ⟨S512x1, .i32⟩
  | .hbm, ⟨55, _⟩ => ⟨S512, .i32⟩
  | .hbm, ⟨56, _⟩ => ⟨S1x512, .i32⟩
  | .hbm, ⟨57, _⟩ => ⟨S512x512, .i32⟩
  | .hbm, ⟨58, _⟩ => ⟨S512x512, .i32⟩
  | .hbm, ⟨59, _⟩ => ⟨S512x512, .i1⟩
  | .hbm, ⟨60, _⟩ => ⟨S512x512, .bf16⟩
  | .hbm, ⟨61, _⟩ => ⟨S16x1x1024, .f32⟩
  | .hbm, ⟨62, _⟩ => ⟨S16x1x1024, .f32⟩
  | .hbm, ⟨63, _⟩ => ⟨S16x1x1024, .f32⟩
  | .hbm, ⟨64, _⟩ => ⟨S1x1024, .f32⟩
  | .hbm, ⟨65, _⟩ => ⟨S16x2048x1024, .f32⟩
  | .hbm, ⟨66, _⟩ => ⟨S16x16384x128, .f32⟩
  | .hbm, ⟨67, _⟩ => ⟨S16x2048x128, .f32⟩
  | .hbm, ⟨68, _⟩ => ⟨S1x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x256, .bf16⟩
  | .local _ .vmem, ⟨19, _⟩ => ⟨S1x128, .f32⟩
  | .local _ .vmem, ⟨20, _⟩ => ⟨S512x512, .bf16⟩
  | .local _ .vmem, ⟨21, _⟩ => ⟨S1x512x1024, .f32⟩
  | .local _ .vmem, ⟨22, _⟩ => ⟨S1x512x1024, .f32⟩
  | .local _ .vmem, ⟨23, _⟩ => ⟨S1x4096x128, .f32⟩
  | .local _ .vmem, ⟨24, _⟩ => ⟨S1x4096x128, .f32⟩
  | .local _ .vmem, ⟨25, _⟩ => ⟨S1x512x128, .f32⟩
  | .local _ .vmem, ⟨26, _⟩ => ⟨S1x512x128, .f32⟩
  | .local _ .vmem, ⟨27, _⟩ => ⟨S1x128, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_v42_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== Reference3Ideal.lean ====
abbrev S16x2048x512 : Shape := ⟨3, ![16, 2048, 512]⟩
abbrev S16x2048x2048 : Shape := ⟨3, ![16, 2048, 2048]⟩
abbrev S16x2048x1024 : Shape := ⟨3, ![16, 2048, 1024]⟩
abbrev S16x1024 : Shape := ⟨2, ![16, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x16384x128 : Shape := ⟨3, ![16, 16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x2048, .f32⟩
  | .hbm, ⟨3, _⟩ => ⟨S16x2048x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1x1024, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024x4, .f32⟩
  | .hbm, ⟨12, _⟩ => ⟨S1x4, .f32⟩
  | .hbm, ⟨13, _⟩ => ⟨S1x1024x32, .f32⟩
  | .hbm, ⟨14, _⟩ => ⟨S1x32, .f32⟩
  | .hbm, ⟨15, _⟩ => ⟨S512x1024, .f32⟩
  | .hbm, ⟨16, _⟩ => ⟨S16x2048x1024, .f32⟩
  | .hbm, ⟨17, _⟩ => ⟨S512x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S1024x1024, .f32⟩
  | .hbm, ⟨25, _⟩ => ⟨S16x2048x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S16x1x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x1x1024, .f32⟩
  | .hbm, ⟨54, _⟩ => ⟨S16x2048x1024, .f32⟩
  | .hbm, ⟨55, _⟩ => ⟨S16x2048x1024, .f32⟩
  | .hbm, ⟨56, _⟩ => ⟨S16x16384x128, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.Attn.Eq.lean ====
module

public import Idealize.ShloMosaic.Lib.Pointwise
public import Idealize.ShloMosaic.Lib.Pipeline.ValueKit

/-! The mathematics of one attention row: a softmax average over a window of keys equals the one over another window
    when the two agree on the keys they share and mask the rest. -/

@[expose] public section

set_option maxRecDepth 16384

noncomputable section

open Idealize.ShloMosaic Idealize.ShloMosaic.TcCoe Idealize.SL.Sem

namespace Cert.Attn

/-- The greatest of a row of scores. -/
def top {n : ℕ} (s : Fin n → EReal) : EReal :=
  Finset.fold max (Ideal.ofBits FTy.f32 4286578688#32) s Finset.univ

/-- The softmax average of `v` with scores `s`, the sum divided at the end. -/
def soft {n : ℕ} (s v : Fin n → EReal) : EReal :=
  Ideal.div (∑ w, Ideal.exp (s w - top s) * v w) (∑ w, Ideal.exp (s w - top s))

/-- The softmax average of `v` with scores `s`, each weight divided first. -/
def softR {n : ℕ} (s v : Fin n → EReal) : EReal :=
  ∑ w, Ideal.div (Ideal.exp (s w - top s)) (∑ w, Ideal.exp (s w - top s)) * v w

theorem top_eq {n : ℕ} (s : Fin n → EReal) : top s = ⨆ w, s w := by
  have hb : Ideal.ofBits FTy.f32 4286578688#32 = ⊥ := by
    simp [Ideal.ofBits, Ideal.ieee]
  unfold top
  rw [hb]
  apply le_antisymm
  · rw [Finset.fold_max_le]
    exact ⟨bot_le, fun x _ => le_iSup s x⟩
  · refine iSup_le fun x => ?_
    rw [Finset.le_fold_max]
    exact Or.inr ⟨x, Finset.mem_univ x, le_rfl⟩

/-- Two rows of scores that agree on the keys they share and are masked elsewhere have the same greatest score. -/
theorem top_shift {n n' : ℕ} (a b : ℕ) (s : Fin n → EReal) (s' : Fin n' → EReal)
    (h : ∀ w k, w.val + a = k.val + b → s' w = s k)
    (h' : ∀ w : Fin n', (∀ k : Fin n, w.val + a ≠ k.val + b) → s' w = ⊥)
    (h'' : ∀ k : Fin n, (∀ w : Fin n', w.val + a ≠ k.val + b) → s k = ⊥) : top s' = top s := by
  rw [top_eq, top_eq]
  apply le_antisymm
  · refine iSup_le fun w => ?_
    by_cases hw : ∃ k : Fin n, w.val + a = k.val + b
    · obtain ⟨k, hk⟩ := hw
      rw [h w k hk]; exact le_iSup s k
    · rw [h' w fun k hk => hw ⟨k, hk⟩]; exact bot_le
  · refine iSup_le fun k => ?_
    by_cases hk : ∃ w : Fin n', w.val + a = k.val + b
    · obtain ⟨w, hw⟩ := hk
      rw [← h w k hw]; exact le_iSup s' w
    · rw [h'' k fun w hw => hk ⟨w, hw⟩]; exact bot_le

/-- Two sums whose terms agree on the shared indices and vanish elsewhere are equal. -/
theorem sum_shift {n n' : ℕ} (a b : ℕ) (f : Fin n → EReal) (f' : Fin n' → EReal)
    (h : ∀ w k, w.val + a = k.val + b → f' w = f k)
    (h' : ∀ w : Fin n', (∀ k : Fin n, w.val + a ≠ k.val + b) → f' w = 0)
    (h'' : ∀ k : Fin n, (∀ w : Fin n', w.val + a ≠ k.val + b) → f k = 0) : ∑ w, f' w = ∑ k, f k := by
  classical
  have H : ∀ w, f' w ≠ 0 → ∃ k : Fin n, w.val + a = k.val + b := fun w hw => by
    by_contra hc
    exact hw (h' w fun k hk => hc ⟨k, hk⟩)
  refine Finset.sum_bij_ne_zero (fun w _ hw => (H w hw).choose) (fun _ _ _ => Finset.mem_univ _) ?_ ?_ ?_
  · intro w _ hw w' _ hw' e
    have h1 := (H w hw).choose_spec
    have h2 := (H w' hw').choose_spec
    have e' : (H w hw).choose = (H w' hw').choose := e
    rw [e'] at h1
    exact Fin.ext (by omega)
  · intro k _ hk
    have : ∃ w : Fin n', w.val + a = k.val + b := by
      by_contra hc
      exact hk (h'' k fun w hw => hc ⟨w, hw⟩)
    obtain ⟨w, hw⟩ := this
    have hne : f' w ≠ 0 := by rw [h w k hw]; exact hk
    refine ⟨w, Finset.mem_univ w, hne, ?_⟩
    have := (H w hne).choose_spec
    exact Fin.ext (by omega)
  · intro w _ hw
    exact h w _ (H w hw).choose_spec

theorem exp_bot_sub (t : EReal) : Ideal.exp (⊥ - t) = 0 := by
  rw [EReal.bot_sub]; rfl

/-- The sum of finitely many products with one nonnegative real factor. -/
theorem sum_mul_real {n : ℕ} (c : ℝ) (hc : 0 ≤ c) (f : Fin n → EReal) :
    (∑ w, f w) * (c : EReal) = ∑ w, f w * (c : EReal) := by
  classical
  have hc' : (0 : EReal) ≤ (c : EReal) := EReal.coe_nonneg.2 hc
  induction (Finset.univ : Finset (Fin n)) using Finset.induction_on with
  | empty => simp
  | insert a t ha ih =>
    rw [Finset.sum_insert ha, Finset.sum_insert ha,
      EReal.right_distrib_of_nonneg_of_ne_top hc' (EReal.coe_ne_top c), ih]

/-- The greatest of finitely many scores below plus infinity lies below plus infinity. -/
theorem top_ne_top {n : ℕ} (s : Fin n → EReal) (hs : ∀ w, s w ≠ ⊤) : top s ≠ ⊤ := by
  have : top s < ⊤ := by
    unfold top
    rw [Finset.fold_max_lt]
    exact ⟨by simp [Ideal.ofBits, Ideal.ieee], fun x _ => lt_top_iff_ne_top.2 (hs x)⟩
  exact this.ne

/-- The weights of a row whose scores are real or masked, with one real among them, are nonnegative reals, one of them
    positive. -/
theorem weights {n : ℕ} (s : Fin n → EReal) (hs : ∀ w, s w ≠ ⊤) (w₀ : Fin n) (h₀ : s w₀ ≠ ⊥) :
    ∃ r : Fin n → ℝ, (∀ w, 0 ≤ r w) ∧ 0 < r w₀ ∧ ∀ w, Ideal.exp (s w - top s) = (r w : EReal) := by
  have ht : top s ≠ ⊥ := by
    rw [top_eq]; intro hc
    exact h₀ (le_bot_iff.1 (hc ▸ le_iSup s w₀))
  have ht' := top_ne_top s hs
  generalize top s = M at ht ht'
  lift M to ℝ using ⟨ht', ht⟩
  refine ⟨fun w => (Ideal.exp (s w - (M : EReal))).toReal, ?_, ?_, ?_⟩
  · intro w
    by_cases hw : s w = ⊥
    · simp only [hw, exp_bot_sub]; simp
    · obtain ⟨x, hx⟩ : ∃ x : ℝ, s w = x := ⟨(s w).toReal, (EReal.coe_toReal (hs w) hw).symm⟩
      simp only [hx, ← EReal.coe_sub]
      exact (Real.exp_pos _).le
  · obtain ⟨x, hx⟩ : ∃ x : ℝ, s w₀ = x := ⟨(s w₀).toReal, (EReal.coe_toReal (hs w₀) h₀).symm⟩
    simp only [hx, ← EReal.coe_sub]
    exact Real.exp_pos _
  · intro w
    by_cases hw : s w = ⊥
    · simp only [hw, exp_bot_sub]; simp
    · obtain ⟨x, hx⟩ : ∃ x : ℝ, s w = x := ⟨(s w).toReal, (EReal.coe_toReal (hs w) hw).symm⟩
      simp only [hx, ← EReal.coe_sub]
      rfl

/-- The sum of reals read as extended reals. -/
theorem sum_coe {n : ℕ} (r : Fin n → ℝ) : (∑ w, (r w : EReal)) = ((∑ w, r w : ℝ) : EReal) := by
  classical
  induction (Finset.univ : Finset (Fin n)) using Finset.induction_on with
  | empty => simp
  | insert a t ha ih => rw [Finset.sum_insert ha, Finset.sum_insert ha, ih, EReal.coe_add]

/-- A row whose scores are real or masked, with one real among them: the two ways of dividing agree. -/
theorem soft_eq_softR {n : ℕ} (s v : Fin n → EReal) (hs : ∀ w, s w ≠ ⊤) (w₀ : Fin n) (h₀ : s w₀ ≠ ⊥) :
    soft s v = softR s v := by
  obtain ⟨r, hr, hr₀, he⟩ := weights s hs w₀ h₀
  have hd : 0 < ∑ w, r w := Finset.sum_pos' (fun w _ => hr w) ⟨w₀, Finset.mem_univ _, hr₀⟩
  have hdiv : ∀ x : EReal, Ideal.div x ((∑ w, r w : ℝ) : EReal) = x * (((∑ w, r w)⁻¹ : ℝ) : EReal) := fun x => by
    unfold Ideal.div
    rw [if_neg (by exact_mod_cast hd.ne'), EReal.coe_inv]
  unfold soft softR
  simp only [he, sum_coe, hdiv]
  rw [sum_mul_real _ (inv_nonneg.2 hd.le)]
  exact Finset.sum_congr rfl fun w _ => by rw [mul_assoc, mul_comm (v w), ← mul_assoc]

/-- The kernel's row against the reference's. -/
theorem soft_shift {n n' : ℕ} (a b : ℕ) (s v : Fin n → EReal) (s' v' : Fin n' → EReal)
    (hs : ∀ k, s k ≠ ⊤) (k₀ : Fin n) (h₀ : s k₀ ≠ ⊥)
    (h : ∀ w k, w.val + a = k.val + b → s' w = s k ∧ v' w = v k)
    (h' : ∀ w : Fin n', (∀ k : Fin n, w.val + a ≠ k.val + b) → s' w = ⊥)
    (h'' : ∀ k : Fin n, (∀ w : Fin n', w.val + a ≠ k.val + b) → s k = ⊥) : soft s' v' = softR s v := by
  rw [← soft_eq_softR s v hs k₀ h₀]
  unfold soft
  rw [top_shift a b s s' (fun w k e => (h w k e).1) h' h'']
  congr 1
  · refine sum_shift a b _ _ (fun w k e => ?_) (fun w hw => ?_) (fun k hk => ?_)
    · rw [(h w k e).1, (h w k e).2]
    · rw [h' w hw, exp_bot_sub, zero_mul]
    · rw [h'' k hk, exp_bot_sub, zero_mul]
  · refine sum_shift a b _ _ (fun w k e => ?_) (fun w hw => ?_) (fun k hk => ?_)
    · rw [(h w k e).1]
    · rw [h' w hw, exp_bot_sub]
    · rw [h'' k hk, exp_bot_sub]

end Cert.Attn

end
-- ==== Proof.Attn.RefInt.lean ====
module

public import proofs.«01_k».proof.Proof.Gen.ReferenceIdeal.Read
public import proofs.«01_k».proof.Proof.Attn.Eq
public import Idealize.ShloMosaic.Lib.Pointwise

/-! The reference's index arithmetic, and what its gathers read. -/

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read

/-- The first row of a chunk. -/
theorem start_read : ∀ c : Fin 32, (val_main_v33 (F := Ideal) (ix1 c) : BitVec 32) = BitVec.ofNat 32 (64 * c.val) := by
  decide +kernel

theorem start38 : ∀ c : Fin 32, (val_main_v41 (F := Ideal) (ix2 c 0) : BitVec 32) = BitVec.ofNat 32 (64 * c.val) := by
  decide +kernel

theorem start49 : ∀ c : Fin 32, (val_main_v52 (F := Ideal) (ix2 c 0) : BitVec 32) = BitVec.ofNat 32 (64 * c.val) := by
  decide +kernel

theorem start60 : ∀ c : Fin 32, (val_main_v63 (F := Ideal) (ix2 c 0) : BitVec 32) = BitVec.ofNat 32 (64 * c.val) := by
  decide +kernel

/-- The third of four columns. -/
theorem third (u : ∀ _ : Fin 4, S32x1.Idx → BitVec 32) (h : Shape.Concatenates [S32x1, S32x1, S32x1, S32x1] S32x4 1) (c : Fin 32) :
    concatenate S32x4 1 [⟨S32x1, u 0⟩, ⟨S32x1, u 1⟩, ⟨S32x1, u 2⟩, ⟨S32x1, u 3⟩] h (ix2 c 2) = u 2 (ix2 c 0) := by
  generalize hi : (ix2 c 2 : S32x4.Idx) = i
  have h0 : (i 0).val = c.val := by rw [← hi]; rfl
  have h1 : (i 1).val = 2 := by rw [← hi]; rfl
  concat_tiles i hk
  · omega
  · omega
  · congr 1
    funext a
    fin_cases a
    · exact Fin.ext (hk0.trans h0)
    · exact Fin.ext hk1
  · omega

/-- The distance between a query and a key, clipped and counted from the table's front. -/
theorem clipped : ∀ n : Fin 640,
    Scalar.select (IntOp.cmpi .slt (IntOp.addi (IntOp.minsi 128#32 (IntOp.maxsi 4294967168#32 (BitVec.ofNat 32 n.val - 575#32))) 128#32) 0#32)
      (IntOp.addi (IntOp.addi (IntOp.minsi 128#32 (IntOp.maxsi 4294967168#32 (BitVec.ofNat 32 n.val - 575#32))) 128#32) 257#32)
      (IntOp.addi (IntOp.minsi 128#32 (IntOp.maxsi 4294967168#32 (BitVec.ofNat 32 n.val - 575#32))) 128#32)
      = BitVec.ofNat 32 (n.val - 447) := by
  decide +kernel

theorem distance (q : Fin 64) (kk : Fin 576) :
    IntOp.subi (IntOp.subi (BitVec.ofNat 32 kk.val) 512#32) (BitVec.ofNat 32 q.val) = BitVec.ofNat 32 (kk.val + 63 - q.val) - 575#32 := by
  show BitVec.ofNat 32 kk.val - 512#32 - BitVec.ofNat 32 q.val = _
  have h1 := kk.isLt
  have h2 := q.isLt
  apply BitVec.eq_of_toNat_eq
  simp only [BitVec.toNat_sub, BitVec.toNat_ofNat]
  omega

theorem dist_read (q : Fin 64) (kk : Fin 576) :
    (val_main_v29 (F := Ideal) (ix3 q kk 0) : BitVec 32) = BitVec.ofNat 32 (kk.val - (384 + q.val)) := by
  have e := clipped ⟨kk.val + 63 - q.val, by omega⟩
  have d := distance q kk
  dsimp only at e
  rw [← d, show kk.val + 63 - q.val - 447 = kk.val - (384 + q.val) by omega] at e
  rw [← e]
  rfl

/-- The gather of biases. -/
theorem gather_bias (x : S8x257.Idx → EReal) (idx : IVec S64x576x1 32) (h : Fin 8) (q : Fin 64) (kk : Fin 576) :
    Host.gather gather_S8x257_S64x576x1_S8x64x576_0_1_n_n_1_2_81 x idx (ix3 h q kk)
      = x (ix2 h ⟨min (idx (ix3 q kk 0)).toInt.toNat 256, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start
    rw [dif_neg (by decide)]
    simp only [Nat.zero_add]
    rfl
  · rw [GatherDims.offCoord_eq_zero _ _ _ (by decide)]
    unfold GatherDims.start
    rw [dif_pos (by decide)]
    have e : gather_S8x257_S64x576x1_S8x64x576_0_1_n_n_1_2_81.siIdx (ix3 h q kk) ⟨0, by decide⟩ = (ix3 q kk 0 : S64x576x1.Idx) := by
      funext b
      fin_cases b <;> rfl
    exact congrArg (fun z => min (idx z).toInt.toNat 256) e

/-- The gather of a chunk of queries. -/
theorem gather_q (x : S16x8x2048x64.Idx → EReal) (idx : IVec S32x4 32) (c : Fin 32) (b : Fin 16) (h : Fin 8) (q d : Fin 64) :
    Host.gather gather_S16x8x2048x64_S32x4_S32x16x8x64x64_1234_n_n_n_0123_1_1686464 x idx (ix5 c b h q d)
      = x (ix4 b h ⟨min (idx (ix2 c 2)).toInt.toNat 1984 + q.val, by omega⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  unfold GatherDims.start
  rw [dif_pos (by revert a; decide)]
  fin_cases a
  · exact (congrArg (· + b.val) (Nat.min_zero _)).trans (Nat.zero_add _)
  · exact (congrArg (· + h.val) (Nat.min_zero _)).trans (Nat.zero_add _)
  · have e : gather_S16x8x2048x64_S32x4_S32x16x8x64x64_1234_n_n_n_0123_1_1686464.siIdx (ix5 c b h q d) ⟨2, by decide⟩ = (ix2 c 2 : S32x4.Idx) := by
      funext b
      fin_cases b <;> rfl
    exact congrArg (fun z => min (idx z).toInt.toNat 1984 + q.val) e
  · exact (congrArg (· + d.val) (Nat.min_zero _)).trans (Nat.zero_add _)

/-- The gather of a band of keys, or of values. -/
theorem gather_k (x : S16x8x2560x64.Idx → EReal) (idx : IVec S32x4 32) (c : Fin 32) (b : Fin 16) (h : Fin 8) (q : Fin 576) (d : Fin 64) :
    Host.gather gather_S16x8x2560x64_S32x4_S32x16x8x576x64_1234_n_n_n_0123_1_16857664 x idx (ix5 c b h q d)
      = x (ix4 b h ⟨min (idx (ix2 c 2)).toInt.toNat 1984 + q.val, by omega⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  unfold GatherDims.start
  rw [dif_pos (by revert a; decide)]
  fin_cases a
  · exact (congrArg (· + b.val) (Nat.min_zero _)).trans (Nat.zero_add _)
  · exact (congrArg (· + h.val) (Nat.min_zero _)).trans (Nat.zero_add _)
  · have e : gather_S16x8x2560x64_S32x4_S32x16x8x576x64_1234_n_n_n_0123_1_16857664.siIdx (ix5 c b h q d) ⟨2, by decide⟩ = (ix2 c 2 : S32x4.Idx) := by
      funext b
      fin_cases b <;> rfl
    exact congrArg (fun z => min (idx z).toInt.toNat 1984 + q.val) e
  · exact (congrArg (· + d.val) (Nat.min_zero _)).trans (Nat.zero_add _)

end Cert.ReferenceIdeal.Attn

end
-- ==== Proof.Attn.RefSoft.lean ====
module

public import proofs.«01_k».proof.Proof.Gen.ReferenceIdeal.Read
public import proofs.«01_k».proof.Proof.Attn.Eq
public import Idealize.ShloMosaic.Lib.Pointwise

/-! The reference's result, as the softmax average of its gathered values with its masked scores. -/

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

variable (Q K X : S16x2048x512.Idx → EReal) (B : S1x8x257.Idx → EReal)

/-- Where the last reshape and transpose read. -/
theorem out_idx (b : Fin 16) (i : Fin 2048) (l : Fin 512) :
    idx_main_v92 (idx_main_v93 (ix3 b i l))
      = (ix5 ⟨i.val / 64, by omega⟩ b ⟨l.val / 64, by omega⟩ ⟨i.val % 64, by omega⟩ ⟨l.val % 64, by omega⟩ : S32x16x8x64x64.Idx) := by
  have hb := b.isLt
  have hi := i.isLt
  have hl := l.isLt
  funext a
  fin_cases a
  · exact Fin.ext (by show ((b.val * 2048 + i.val) * 512 + l.val) / 32768 % 32 = i.val / 64; omega)
  · exact Fin.ext (by show ((b.val * 2048 + i.val) * 512 + l.val) / 1048576 = b.val; omega)
  · exact Fin.ext (by show ((b.val * 2048 + i.val) * 512 + l.val) / 64 % 8 = l.val / 64; omega)
  · exact Fin.ext (by show ((b.val * 2048 + i.val) * 512 + l.val) / 512 % 64 = i.val % 64; omega)
  · exact Fin.ext (by show ((b.val * 2048 + i.val) * 512 + l.val) % 64 = l.val % 64; omega)

/-- The greatest score of a row. -/
theorem max_read (c : Fin 32) (b : Fin 16) (h : Fin 8) (q : Fin 64) :
    val_main_v80 (F := Ideal) Q K B (ix4 c b h q) = top (fun kk : Fin 576 => val_main_v79 (F := Ideal) Q K B (ix5 c b h q kk)) := by
  unfold val_main_v80
  generalize val_main_v79 (F := Ideal) Q K B = y
  simp only [pointwise]
  rfl

theorem bot_max (z : EReal) : max (Ideal.ofBits FTy.f32 4286578688#32) z = z := by
  have e : Ideal.ofBits FTy.f32 4286578688#32 = ⊥ := by simp [Ideal.ofBits, Ideal.ieee]
  rw [e]; exact max_eq_right bot_le

/-- A weight before the division. -/
theorem exp_read (c : Fin 32) (b : Fin 16) (h : Fin 8) (q : Fin 64) (kk : Fin 576) :
    val_main_v86 (F := Ideal) Q K B (ix5 c b h q kk)
      = Ideal.exp (val_main_v79 (F := Ideal) Q K B (ix5 c b h q kk) - top (fun kk : Fin 576 => val_main_v79 (F := Ideal) Q K B (ix5 c b h q kk))) := by
  have e : val_main_v84 (F := Ideal) Q K B (ix5 c b h q kk) = top (fun kk : Fin 576 => val_main_v79 (F := Ideal) Q K B (ix5 c b h q kk)) := by
    have j : idx_main_v83 (idx_main_v84 (ix5 c b h q kk)) = (ix4 c b h q : S32x16x8x64.Idx) := by
      funext a; fin_cases a <;> rfl
    rw [val_main_v84_apply, val_main_v83_apply, val_main_v82_apply, ← max_read, j, val_main_v81_apply, val_main_cst_25_apply]
    generalize val_main_v80 (F := Ideal) Q K B (ix4 c b h q) = y
    exact bot_max y
  rw [← e]
  rfl

/-- The sum of the weights of a row. -/
theorem sum_read (c : Fin 32) (b : Fin 16) (h : Fin 8) (q : Fin 64) (kk : Fin 576) :
    val_main_v89 (F := Ideal) Q K B (ix5 c b h q kk) = ∑ kk : Fin 576, val_main_v86 (F := Ideal) Q K B (ix5 c b h q kk) := by
  rw [val_main_v89_apply, val_main_v88_apply, val_main_v87_apply]
  have z : val_main_cst_26 (F := Ideal) (Shape.Idx.first h_S_) = (0 : EReal) := by
    rw [val_main_cst_26_apply]
    exact Ideal.ofBits_zero _
  rw [z, zero_add]
  refine Finset.sum_congr rfl fun k _ => congrArg _ ?_
  funext a
  fin_cases a <;> rfl

theorem result_read (b : Fin 16) (i : Fin 2048) (l : Fin 512) :
    val_main_v93 (F := Ideal) Q K X B (ix3 b i l)
      = softR (fun kk : Fin 576 => val_main_v79 (F := Ideal) Q K B (ix5 ⟨i.val / 64, by omega⟩ b ⟨l.val / 64, by omega⟩ ⟨i.val % 64, by omega⟩ kk))
          (fun kk : Fin 576 => val_main_v66 (F := Ideal) X (ix5 ⟨i.val / 64, by omega⟩ b ⟨l.val / 64, by omega⟩ kk ⟨l.val % 64, by omega⟩)) := by
  rw [val_main_v93_apply, val_main_v92_apply, out_idx, val_main_v91_apply]
  unfold softR
  refine Finset.sum_congr rfl fun kk _ => ?_
  have e1 : ∀ (c : Fin 32) (b : Fin 16) (h : Fin 8) (q d : Fin 64), lidx_main_v91 (ix5 c b h q d) kk = (ix5 c b h q kk : S32x16x8x64x576.Idx) := by
    intro c b h q d; funext a; fin_cases a <;> rfl
  have e2 : ∀ (c : Fin 32) (b : Fin 16) (h : Fin 8) (q d : Fin 64), ridx_main_v91 (ix5 c b h q d) kk = (ix5 c b h kk d : S32x16x8x576x64.Idx) := by
    intro c b h q d; funext a; fin_cases a <;> rfl
  rw [e1, e2, val_main_v90_apply, sum_read]
  simp only [exp_read]
  rfl

end Cert.ReferenceIdeal.Attn

end
-- ==== Proof.Attn.RefRead.lean ====
module

public import proofs.«01_k».proof.Proof.Attn.RefInt
public import proofs.«01_k».proof.Proof.Attn.RefSoft

/-! The reference's scores and values, from the queries, keys, values and biases. -/

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

variable (Q K X : S16x2048x512.Idx → EReal) (B : S1x8x257.Idx → EReal)

/-- Where the split into heads reads. -/
theorem head_idx (b : Fin 16) (h : Fin 8) (j : Fin 2048) (d : Fin 64) :
    idx_main_v2 (idx_main_v3 (ix4 b h j d)) = (ix3 b j ⟨64 * h.val + d.val, by omega⟩ : S16x2048x512.Idx) := by
  have hb := b.isLt
  have hh := h.isLt
  have hj := j.isLt
  have hd := d.isLt
  funext a
  fin_cases a
  · exact Fin.ext (by show (((b.val * 2048 + j.val) * 8 + h.val) * 64 + d.val) / 1048576 = b.val; omega)
  · exact Fin.ext (by show (((b.val * 2048 + j.val) * 8 + h.val) * 64 + d.val) / 512 % 2048 = j.val; omega)
  · exact Fin.ext (by show (((b.val * 2048 + j.val) * 8 + h.val) * 64 + d.val) % 512 = 64 * h.val + d.val; omega)

theorem heads_q (b : Fin 16) (h : Fin 8) (j : Fin 2048) (d : Fin 64) :
    val_main_v3 (F := Ideal) Q (ix4 b h j d) = Q (ix3 b j ⟨64 * h.val + d.val, by omega⟩) := by
  rw [val_main_v3_apply, val_main_v2_apply, head_idx]
  rfl

theorem heads_k (b : Fin 16) (h : Fin 8) (j : Fin 2048) (d : Fin 64) :
    val_main_v6 (F := Ideal) K (ix4 b h j d) = K (ix3 b j ⟨64 * h.val + d.val, by omega⟩) := heads_q K b h j d

theorem heads_v (b : Fin 16) (h : Fin 8) (j : Fin 2048) (d : Fin 64) :
    val_main_v9 (F := Ideal) X (ix4 b h j d) = X (ix3 b j ⟨64 * h.val + d.val, by omega⟩) := heads_q X b h j d

/-- The padding past its first 512 rows. -/
theorem pad_read (x : S16x8x2048x64.Idx → EReal) (v : S_.Idx → EReal) (hp : S16x8x2048x64.Pads ![0, 0, 512, 0] ![0, 0, 0, 0] ![0, 0, 0, 0] S16x8x2560x64)
    (hu : 0 < S_.numel) (b : Fin 16) (h : Fin 8) (j : Fin 2048) (d : Fin 64) :
    pad S16x8x2560x64 ![0, 0, 512, 0] ![0, 0, 0, 0] ![0, 0, 0, 0] x v hp hu (ix4 b h ⟨512 + j.val, by omega⟩ d) = x (ix4 b h j d) := by
  rw [pad_apply, dif_pos]
  · congr 1
    funext a
    fin_cases a
    · exact Fin.ext (by show (b.val - 0) / 1 = b.val; omega)
    · exact Fin.ext (by show (h.val - 0) / 1 = h.val; omega)
    · exact Fin.ext (by show (512 + j.val - 512) / 1 = j.val; omega)
    · exact Fin.ext (by show (d.val - 0) / 1 = d.val; omega)
  · intro a
    have hb := b.isLt
    have hh := h.isLt
    have hj := j.isLt
    have hd := d.isLt
    fin_cases a
    · show 0 ≤ b.val ∧ (b.val - 0) % 1 = 0 ∧ (b.val - 0) / 1 < 16; omega
    · show 0 ≤ h.val ∧ (h.val - 0) % 1 = 0 ∧ (h.val - 0) / 1 < 8; omega
    · show 512 ≤ 512 + j.val ∧ (512 + j.val - 512) % 1 = 0 ∧ (512 + j.val - 512) / 1 < 2048; omega
    · show 0 ≤ d.val ∧ (d.val - 0) % 1 = 0 ∧ (d.val - 0) / 1 < 64; omega

theorem word_start (c : Fin 32) : min (BitVec.ofNat 32 (64 * c.val)).toInt.toNat 1984 = 64 * c.val := by
  revert c; decide +kernel

/-- Equal indices read equal elements. -/
theorem read_at {n : ℕ} {f : Fin n → EReal} {a b : Fin n} (h : a.val = b.val) : f a = f b := congrArg f (Fin.ext h)

theorem chunk_q (c : Fin 32) (b : Fin 16) (h : Fin 8) (q d : Fin 64) :
    val_main_v44 (F := Ideal) Q (ix5 c b h q d) = Q (ix3 b ⟨64 * c.val + q.val, by omega⟩ ⟨64 * h.val + d.val, by omega⟩) := by
  unfold val_main_v44
  rw [gather_q, ← heads_q Q]
  refine read_at (f := fun j => val_main_v3 (F := Ideal) Q (ix4 b h j d)) ?_
  dsimp only
  have e : (val_main_v43 (F := Ideal) (ix2 c 2) : BitVec 32) = BitVec.ofNat 32 (64 * c.val) :=
    (third (fun k => match k with
      | 0 => val_main_v39 (F := Ideal) | 1 => val_main_v40 (F := Ideal) | 2 => val_main_v41 (F := Ideal) | 3 => val_main_v42 (F := Ideal)) _ c).trans (start38 c)
  rw [e, word_start]

theorem band_k (c : Fin 32) (b : Fin 16) (h : Fin 8) (kk : Fin 576) (d : Fin 64) (hk : 512 ≤ 64 * c.val + kk.val) :
    val_main_v55 (F := Ideal) K (ix5 c b h kk d) = K (ix3 b ⟨64 * c.val + kk.val - 512, by omega⟩ ⟨64 * h.val + d.val, by omega⟩) := by
  unfold val_main_v55
  have e : (val_main_v54 (F := Ideal) (ix2 c 2) : BitVec 32) = BitVec.ofNat 32 (64 * c.val) :=
    (third (fun k => match k with
      | 0 => val_main_v50 (F := Ideal) | 1 => val_main_v51 (F := Ideal) | 2 => val_main_v52 (F := Ideal) | 3 => val_main_v53 (F := Ideal)) _ c).trans (start49 c)
  rw [gather_k, ← heads_k K]
  unfold val_main_v10
  generalize val_main_v6 (F := Ideal) K = x
  generalize val_main_call0_v0 (F := Ideal) = v
  have e2 : (⟨min (val_main_v54 (F := Ideal) (ix2 c 2) : BitVec 32).toInt.toNat 1984 + kk.val, by omega⟩ : Fin 2560)
      = ⟨512 + (64 * c.val + kk.val - 512), by omega⟩ := Fin.ext (by dsimp only; rw [e, word_start]; omega)
  refine Eq.trans (congrArg (fun j => pad S16x8x2560x64 ![0, 0, 512, 0] ![0, 0, 0, 0] ![0, 0, 0, 0] x v
    pads_S16x8x2048x64_S16x8x2560x64_000_000_51200_000 h_S_ (ix4 b h j d)) e2) ?_
  exact pad_read x v pads_S16x8x2048x64_S16x8x2560x64_000_000_51200_000 h_S_ b h ⟨64 * c.val + kk.val - 512, by omega⟩ d

theorem band_v (c : Fin 32) (b : Fin 16) (h : Fin 8) (kk : Fin 576) (d : Fin 64) (hk : 512 ≤ 64 * c.val + kk.val) :
    val_main_v66 (F := Ideal) X (ix5 c b h kk d) = X (ix3 b ⟨64 * c.val + kk.val - 512, by omega⟩ ⟨64 * h.val + d.val, by omega⟩) :=
  band_k X c b h kk d hk

theorem bias_idx (h : Fin 8) (r : Fin 257) : idx_main_v0 (ix2 h r) = (ix3 0 h r : S1x8x257.Idx) := by
  have hh := h.isLt
  have hr := r.isLt
  funext a
  fin_cases a
  · rfl
  · exact Fin.ext (by show (h.val * 257 + r.val) / 257 % 8 = h.val; omega)
  · exact Fin.ext (by show (h.val * 257 + r.val) % 257 = r.val; omega)

theorem word_dist : ∀ n : Fin 576, min (BitVec.ofNat 32 n.val).toInt.toNat 256 = min n.val 256 := by
  decide +kernel

theorem bias_at (h : Fin 8) (q : Fin 64) (kk : Fin 576) :
    val_main_v30 (F := Ideal) B (ix3 h q kk) = B (ix3 0 h ⟨min (kk.val - (384 + q.val)) 256, by omega⟩) := by
  unfold val_main_v30
  rw [gather_bias, val_main_v0_apply, bias_idx]
  refine read_at (f := fun j => B (ix3 0 h j)) ?_
  dsimp only
  rw [dist_read]
  exact word_dist ⟨kk.val - (384 + q.val), by omega⟩

theorem word_sign : ∀ n : Fin 2560, IntOp.cmpi .sge (BitVec.ofNat 32 n.val - 512#32) 0#32 = BitVec.ofBool (decide (512 ≤ n.val)) := by
  decide +kernel

theorem mask_read (c : Fin 32) (kk : Fin 576) :
    (val_main_v78 (F := Ideal) (ix2 c kk) : BitVec 1) = BitVec.ofBool (decide (512 ≤ 64 * c.val + kk.val)) := by
  have e := word_sign ⟨64 * c.val + kk.val, by omega⟩
  dsimp only at e
  rw [← e]
  have s : (val_main_v74 (F := Ideal) (ix2 c kk) : BitVec 32) = BitVec.ofNat 32 (64 * c.val) := by
    rw [val_main_v74_apply, val_main_v73_apply, ← start_read]
    congr 1
    funext a
    fin_cases a
    rfl
  have t : (val_main_v76 (F := Ideal) (ix2 c kk) : BitVec 32) = BitVec.ofNat 32 (64 * c.val + kk.val) - 512#32 := by
    rw [val_main_v76_apply, s]
    show BitVec.ofNat 32 (64 * c.val) + (BitVec.ofNat 32 kk.val - 512#32) = _
    apply BitVec.eq_of_toNat_eq
    simp only [BitVec.toNat_sub, BitVec.toNat_ofNat, BitVec.toNat_add]
    omega
  rw [val_main_v78_apply, t]
  rfl

/-- The score of a key of the band before the mask. -/
def dot (c : Fin 32) (b : Fin 16) (h : Fin 8) (q : Fin 64) (kk : Fin 576) (hk : 512 ≤ 64 * c.val + kk.val) : EReal :=
  (∑ d : Fin 64, Q (ix3 b ⟨64 * c.val + q.val, by omega⟩ ⟨64 * h.val + d.val, by omega⟩)
      * K (ix3 b ⟨64 * c.val + kk.val - 512, by omega⟩ ⟨64 * h.val + d.val, by omega⟩))
    + B (ix3 0 h ⟨min (kk.val - (384 + q.val)) 256, by omega⟩)

theorem select_bool (p : Prop) [Decidable p] (x y : EReal) : Scalar.select (BitVec.ofBool (decide p)) x y = if p then x else y := by
  by_cases h : p <;> simp [h, Scalar.select]

theorem score_read (c : Fin 32) (b : Fin 16) (h : Fin 8) (q : Fin 64) (kk : Fin 576) :
    val_main_v79 (F := Ideal) Q K B (ix5 c b h q kk) = if hk : 512 ≤ 64 * c.val + kk.val then dot Q K B c b h q kk hk else ⊥ := by
  have hm : (val_main_call3_v1 (F := Ideal) (ix5 c b h q kk) : BitVec 1) = BitVec.ofBool (decide (512 ≤ 64 * c.val + kk.val)) := by
    rw [val_main_call3_v1_apply, ← mask_read]
    congr 1
    funext a
    fin_cases a <;> rfl
  have hb : val_main_call3_v3 (F := Ideal) (ix5 c b h q kk) = (⊥ : EReal) := by
    rw [val_main_call3_v3_apply, val_main_call3_v2_apply, val_main_call3_v0_apply, val_main_cst_apply]
    show Ideal.ofBits FTy.f32 4286578688#32 = ⊥
    simp [Ideal.ofBits, Ideal.ieee]
  rw [val_main_v79_apply, hm, hb, select_bool]
  by_cases hk : 512 ≤ 64 * c.val + kk.val
  · rw [if_pos hk, dif_pos hk, val_main_v71_apply, val_main_v67_apply, val_main_v70_apply, val_main_v69_apply, val_main_v68_apply]
    have e1 : ∀ d : Fin 64, lidx_main_v67 (ix5 c b h q kk) d = (ix5 c b h q d : S32x16x8x64x64.Idx) := by
      intro d; funext a; fin_cases a <;> rfl
    have e2 : ∀ d : Fin 64, ridx_main_v67 (ix5 c b h q kk) d = (ix5 c b h kk d : S32x16x8x576x64.Idx) := by
      intro d; funext a; fin_cases a <;> rfl
    have e3 : idx_main_v68 (idx_main_v69 (idx_main_v70 (ix5 c b h q kk))) = (ix3 h q kk : S8x64x576.Idx) := by
      funext a; fin_cases a <;> rfl
    rw [e3, bias_at]
    simp only [e1, e2, chunk_q, band_k K c b h kk _ hk]
    rfl
  · rw [if_neg hk, dif_neg hk]

end Cert.ReferenceIdeal.Attn

end
-- ==== Proof.Attn.Table.lean ====
module

public import proofs.«01_k».proof.Proof.Gen.KernelIdeal.Value
public import Idealize.ShloMosaic.Lib.Pointwise
public import Idealize.ShloMosaic.Lib.Pipeline.ValueKit
public import Idealize.ShloMosaic.Lib.StableHlo.RunRead

/-! The bias tables that the host prepares. -/

@[expose] public section

set_option maxRecDepth 65536

noncomputable section

open Idealize.ShloMosaic Idealize.ShloMosaic.TcCoe Idealize.SL.Sem

namespace Cert.KernelIdeal.Attn

open Cert.KernelIdeal.Gen

variable (m : (ℓ : Loc nD τ sig) → Buf (Elt Ideal) ℓ)

/-- The host operations after the row tables. -/
abbrev late : List (HloOp τ sig (Elt Ideal)) :=
  List.flatten [hostOps0_1 (F := Ideal), hostOps0_2, hostOps0_3, hostOps0_4, hostOps0_5, hostOps0_6, hostOps0_7,
    hostOps0_8, hostOps0_9, hostOps0_10, hostOps0_11, hostOps0_12, hostOps0_13, hostOps0_14]

/-- The floored division by 64 as the host spells it out. -/
abbrev floorDiv (x : BitVec 32) : BitVec 32 :=
  Scalar.select
    (IntOp.andi
      (IntOp.cmpi CmpIPredicate.ne (if x = 0 then 0 else if x.msb = true then -1 else 1 : BitVec 32)
        (if 64#32 = 0 then 0 else if (64#32).msb = true then -1 else 1 : BitVec 32))
      (IntOp.cmpi CmpIPredicate.ne (IntOp.remsi ArithUnit.host x 64#32) 0#32))
    (IntOp.subi (IntOp.divsi ArithUnit.host x 64#32) 1#32)
    (IntOp.divsi ArithUnit.host x 64#32)

/-- It is the quotient, at the rows and keys of a table. -/
theorem floorDiv_eq (n : ℕ) (hn : n < 640) : floorDiv (BitVec.ofNat 32 n) = BitVec.ofNat 32 (n / 64) := by
  have h : ∀ n : Fin 640, floorDiv (BitVec.ofNat 32 n.val) = BitVec.ofNat 32 (n.val / 64) := by decide +kernel
  exact h ⟨n, hn⟩

/-- A key chunk `a` of a window is seen by a query chunk `b` of a block that starts `v` blocks in. -/
abbrev Seen (v a b : ℕ) : Prop := b + 2 * v ≤ a + 8 ∧ a ≤ b + 2 * v

/-- The host's test of a key chunk against a query chunk. -/
theorem seen_select (v : Fin 5) (a : Fin 10) (b : Fin 2) (x y : EReal) :
    Scalar.select
      (IntOp.andi
        (IntOp.cmpi CmpIPredicate.sle
          (IntOp.subi (IntOp.subi (BitVec.ofNat 32 a.val) (BitVec.ofNat 32 b.val)) (BitVec.ofNat 32 (2 * v.val))) 0#32)
        (IntOp.cmpi CmpIPredicate.sge
          (IntOp.subi (IntOp.subi (BitVec.ofNat 32 a.val) (BitVec.ofNat 32 b.val)) (BitVec.ofNat 32 (2 * v.val)))
          4294967288#32)) x y
      = if Seen v.val a.val b.val then x else y := by
  have h : ∀ (v : Fin 5) (a : Fin 10) (b : Fin 2),
      (IntOp.andi
        (IntOp.cmpi CmpIPredicate.sle
          (IntOp.subi (IntOp.subi (BitVec.ofNat 32 a.val) (BitVec.ofNat 32 b.val)) (BitVec.ofNat 32 (2 * v.val))) 0#32)
        (IntOp.cmpi CmpIPredicate.sge
          (IntOp.subi (IntOp.subi (BitVec.ofNat 32 a.val) (BitVec.ofNat 32 b.val)) (BitVec.ofNat 32 (2 * v.val)))
          4294967288#32)) = if Seen v.val a.val b.val then 1#1 else 0#1 := by decide +kernel
  rw [h v a b]
  split <;> simp [Scalar.select]

/-- The host's test of a key against a row, whole. -/
theorem seen_read (v : Fin 5) (w : Fin 640) (r : Fin 128) (x y : EReal) :
    Scalar.select
      (IntOp.andi
        (IntOp.cmpi CmpIPredicate.sle
          (IntOp.subi (IntOp.subi (floorDiv (BitVec.ofNat 32 w.val)) (floorDiv (BitVec.ofNat 32 r.val)))
            (BitVec.ofNat 32 (2 * v.val))) 0#32)
        (IntOp.cmpi CmpIPredicate.sge
          (IntOp.subi (IntOp.subi (floorDiv (BitVec.ofNat 32 w.val)) (floorDiv (BitVec.ofNat 32 r.val)))
            (BitVec.ofNat 32 (2 * v.val))) 4294967288#32)) x y
      = if Seen v.val (w.val / 64) (r.val / 64) then x else y := by
  rw [floorDiv_eq _ w.isLt, floorDiv_eq _ (by omega)]
  exact seen_select v ⟨w.val / 64, by omega⟩ ⟨r.val / 64, by omega⟩ x y

/-- One table's entry over the shifted rows `T`: the bias of a key that is seen, and -∞ elsewhere. -/
def tab (T : S8x128x1152.Idx → EReal) (v : Fin 5) (h : Fin 8) (r : Fin 128) (w : Fin 640) : EReal :=
  if Seen v.val (w.val / 64) (r.val / 64) then T (ix3 h r ⟨(4 - v.val) * 128 + w.val, by omega⟩) else ⊥

set_option maxHeartbeats 4000000 in
/-- The five stacked tables, from the shifted rows. -/
theorem tables_read (W : Valuation τ sig (Elt Ideal)) (hc : W main_c = fun _ => 64#32)
    (hr : W main_v272 = fun i => BitVec.ofNat 32 (i 0).val) (v : Fin 5) (h : Fin 8) (r : Fin 128) (w : Fin 640) :
    StableHlo.after late W main_v347 (ix4 v h r w) = tab (W main_v270) v h r w := by
  have hbot : Ideal.ofBits FTy.f32 4286578688#32 = ⊥ := by simp [Ideal.ofBits, Ideal.ieee]
  have key : (StableHlo.after late W main_v347 (ix4 0 h r w) = tab (W main_v270) 0 h r w)
      ∧ (StableHlo.after late W main_v347 (ix4 1 h r w) = tab (W main_v270) 1 h r w)
      ∧ (StableHlo.after late W main_v347 (ix4 2 h r w) = tab (W main_v270) 2 h r w)
      ∧ (StableHlo.after late W main_v347 (ix4 3 h r w) = tab (W main_v270) 3 h r w)
      ∧ (StableHlo.after late W main_v347 (ix4 4 h r w) = tab (W main_v270) 4 h r w) := by
    refine ⟨?_, ?_, ?_, ?_, ?_⟩
    all_goals
      after_reads_simp [Matrix.cons_val_zero, Matrix.cons_val_one, Matrix.cons_val]
      pointwise
      after_reads_simp [Matrix.cons_val_zero, Matrix.cons_val_one, Matrix.cons_val, StableHlo.TRef.ofBuf, StableHlo.TRef.toBuf, hc, hr]
      simp only [cast_eq, id_eq]
      pointwise
      rw [hbot]
    · exact seen_read 0 w r _ _
    · exact seen_read 1 w r _ _
    · exact seen_read 2 w r _ _
    · exact seen_read 3 w r _ _
    · refine (seen_read 4 w r _ _).trans ?_
      simp [tab]
  obtain ⟨h0, h1, h2, h3, h4⟩ := key
  match v with
  | 0 => exact h0
  | 1 => exact h1
  | 2 => exact h2
  | 3 => exact h3
  | 4 => exact h4

end Cert.KernelIdeal.Attn

end
-- ==== Proof.Attn.Rows.lean ====
module

public import proofs.«01_k».proof.Proof.Attn.Table

/-! The shifted rows of the bias that the host prepares. -/

@[expose] public section

set_option maxRecDepth 65536

noncomputable section

open Idealize.ShloMosaic Idealize.ShloMosaic.TcCoe Idealize.SL.Sem

namespace Cert.KernelIdeal.Attn

open Cert.KernelIdeal.Gen

/-- The host operations up to the padded bias. -/
abbrev early : List (HloOp τ sig (Elt Ideal)) := List.take 6 hostOps0

/-- Those that shift it, row by row. -/
abbrev mid : List (HloOp τ sig (Elt Ideal)) := List.take 264 (List.drop 6 hostOps0)

/-- An array read at two indices of equal coordinates. -/
theorem read_congr (E : S8x1280.Idx → EReal) {a b : Fin 8} {m n : Fin 1280} (ha : a.val = b.val) (hm : m.val = n.val) :
    E (ix2 a m) = E (ix2 b n) := by rw [Fin.ext ha, Fin.ext hm]

set_option maxHeartbeats 40000000 in
/-- Each stack of sixteen rows holds the padded bias, one step further per row. -/
theorem stack_rows (W : Valuation τ sig (Elt Ideal)) (h : Fin 8) (s : Fin 16) (x : Fin 1152) :
    StableHlo.after mid W main_v262 (ix3 h s x) = W main_v5 (ix2 h ⟨128 - (16 * 0 + s.val) + x.val, by omega⟩) ∧
    StableHlo.after mid W main_v263 (ix3 h s x) = W main_v5 (ix2 h ⟨128 - (16 * 1 + s.val) + x.val, by omega⟩) ∧
    StableHlo.after mid W main_v264 (ix3 h s x) = W main_v5 (ix2 h ⟨128 - (16 * 2 + s.val) + x.val, by omega⟩) ∧
    StableHlo.after mid W main_v265 (ix3 h s x) = W main_v5 (ix2 h ⟨128 - (16 * 3 + s.val) + x.val, by omega⟩) ∧
    StableHlo.after mid W main_v266 (ix3 h s x) = W main_v5 (ix2 h ⟨128 - (16 * 4 + s.val) + x.val, by omega⟩) ∧
    StableHlo.after mid W main_v267 (ix3 h s x) = W main_v5 (ix2 h ⟨128 - (16 * 5 + s.val) + x.val, by omega⟩) ∧
    StableHlo.after mid W main_v268 (ix3 h s x) = W main_v5 (ix2 h ⟨128 - (16 * 6 + s.val) + x.val, by omega⟩) ∧
    StableHlo.after mid W main_v269 (ix3 h s x) = W main_v5 (ix2 h ⟨128 - (16 * 7 + s.val) + x.val, by omega⟩) := by
  refine ⟨?_, ?_, ?_, ?_, ?_, ?_, ?_, ?_⟩
  all_goals
    after_reads_simp [Matrix.cons_val_zero, Matrix.cons_val_one, Matrix.cons_val]
    concat_tiles i hk
    all_goals
      pointwise
      replace hk : s.val = _ := hk
      replace hk2 : (i 2).val = x.val := hk2
      exact read_congr _ hk0 (by show _ + (i 2).val = _ - _ + x.val; omega)

end Cert.KernelIdeal.Attn

end
-- ==== Proof.Attn.Prep.lean ====
module

public import proofs.«01_k».proof.Proof.Attn.Rows

/-! The prepared tables, in terms of the bias. -/

@[expose] public section

set_option maxRecDepth 65536

noncomputable section

open Idealize.ShloMosaic Idealize.ShloMosaic.TcCoe Idealize.SL.Sem

namespace Cert.KernelIdeal.Attn

open Cert.KernelIdeal.Gen

/-- The last of the host operations before the tables. -/
abbrev last : List (HloOp τ sig (Elt Ideal)) := List.drop 270 hostOps0

/-- Eight stacks of sixteen rows, read at a row. -/
theorem eight (u : Fin 8 → S8x16x1152.Idx → EReal)
    (hc : Shape.Concatenates [S8x16x1152, S8x16x1152, S8x16x1152, S8x16x1152, S8x16x1152, S8x16x1152, S8x16x1152, S8x16x1152] S8x128x1152 1)
    (h : Fin 8) (r : Fin 128) (x : Fin 1152) :
    concatenate S8x128x1152 1 [⟨S8x16x1152, u 0⟩, ⟨S8x16x1152, u 1⟩, ⟨S8x16x1152, u 2⟩, ⟨S8x16x1152, u 3⟩,
      ⟨S8x16x1152, u 4⟩, ⟨S8x16x1152, u 5⟩, ⟨S8x16x1152, u 6⟩, ⟨S8x16x1152, u 7⟩] hc (ix3 h r x)
      = u ⟨r.val / 16, by omega⟩ (ix3 h ⟨r.val % 16, by omega⟩ x) := by
  refine concatenate_ofFn_apply (t := S8x128x1152) (s₁ := S8x16x1152) 1 u hc rfl 16 rfl (ix3 h r x) ⟨r.val / 16, by omega⟩ rfl _ rfl ?_
  intro b hb
  fin_cases b
  · rfl
  · exact absurd rfl hb
  · rfl

set_option maxHeartbeats 4000000 in
/-- The shifted rows, from the eight stacks. -/
theorem last_rows (W : Valuation τ sig (Elt Ideal)) (u : Fin 8 → S8x16x1152.Idx → EReal)
    (h0 : W main_v262 = u 0) (h1 : W main_v263 = u 1) (h2 : W main_v264 = u 2) (h3 : W main_v265 = u 3)
    (h4 : W main_v266 = u 4) (h5 : W main_v267 = u 5) (h6 : W main_v268 = u 6) (h7 : W main_v269 = u 7)
    (h : Fin 8) (r : Fin 128) (x : Fin 1152) :
    StableHlo.after last W main_v270 (ix3 h r x) = u ⟨r.val / 16, by omega⟩ (ix3 h ⟨r.val % 16, by omega⟩ x) := by
  refine Eq.trans ?_ (eight u concatenates_S8x16x1152_S8x16x1152_S8x16x1152_S8x16x1152_S8x16x1152_S8x16x1152_S8x16x1152_S8x16x1152_S8x128x1152_d1 h r x)
  rw [← h0, ← h1, ← h2, ← h3, ← h4, ← h5, ← h6, ← h7]
  after_reads_simp [Matrix.cons_val_zero, Matrix.cons_val_one, Matrix.cons_val]

/-- A chunk's length, as the host holds it. -/
theorem last_len (W : Valuation τ sig (Elt Ideal)) : StableHlo.after last W main_c = fun _ => 64#32 := by
  after_reads_simp
  rfl

/-- The rows' numbers, as the host holds them. -/
theorem last_iota (W : Valuation τ sig (Elt Ideal)) :
    StableHlo.after last W main_v272 = fun i => BitVec.ofNat 32 (i 0).val := by
  after_reads_simp
  funext i
  pointwise

set_option maxHeartbeats 4000000 in
/-- The padded bias: the first and the last of a head's biases stand for all beyond them. -/
theorem early_read (W : Valuation τ sig (Elt Ideal)) (h : Fin 8) (p : Fin 1280) :
    StableHlo.after early W main_v5 (ix2 h p) = W main_arg3 (ix3 0 h ⟨min (p.val - 512) 256, by omega⟩) := by
  after_reads_simp [Matrix.cons_val_zero, Matrix.cons_val_one, Matrix.cons_val]
  pointwise
  split
  · congr 2; exact Fin.ext (by show 0 = min (p.val - 512) 256; omega)
  · split
    · congr 2; exact Fin.ext (by show p.val - 512 = min (p.val - 512) 256; omega)
    · congr 2; exact Fin.ext (by show 256 = min (p.val - 512) 256; omega)

/-- The host's operations, in four parts. -/
theorem split_host (m : (ℓ : Loc nD τ sig) → Buf (Elt Ideal) ℓ) (c : Dev nD) (b : Ref sig .tc) :
    Gen.V m c b = StableHlo.after late (StableHlo.after last (StableHlo.after mid (StableHlo.after early (fun b => m (c, b))))) b := by
  have e : (hostOps0 (F := Ideal)) = early ++ (mid ++ last) := by
    rw [show last = List.drop 264 (List.drop 6 (hostOps0 (F := Ideal))) by rw [List.drop_drop], List.take_append_drop, List.take_append_drop]
  have f : List.flatten [hostOps0 (F := Ideal), hostOps0_1, hostOps0_2, hostOps0_3, hostOps0_4, hostOps0_5, hostOps0_6, hostOps0_7,
    hostOps0_8, hostOps0_9, hostOps0_10, hostOps0_11, hostOps0_12, hostOps0_13, hostOps0_14] = (early ++ (mid ++ last)) ++ late := by
    rw [← e, List.flatten_cons]
  rw [← StableHlo.after_append, ← StableHlo.after_append, ← StableHlo.after_append]
  show StableHlo.after (List.flatten _) _ _ = _
  rw [f]
  simp only [List.append_assoc]

/-- Stack `g` of the shifted rows, from the padded bias. -/
def stackOf (E : S8x1280.Idx → EReal) (g : Fin 8) : S8x16x1152.Idx → EReal :=
  fun i => E (ix2 (i 0) ⟨128 - (16 * g.val + (i 1).val) + (i 2).val, by
    have := (i 2).isLt; simp only [Matrix.cons_val] at this; omega⟩)

/-- An array that agrees with a stack at every index is that stack. -/
theorem stack_ext (E : S8x1280.Idx → EReal) (g : Fin 8) (X : S8x16x1152.Idx → EReal)
    (hX : ∀ (h : Fin 8) (s : Fin 16) (x : Fin 1152), X (ix3 h s x) = E (ix2 h ⟨128 - (16 * g.val + s.val) + x.val, by omega⟩)) :
    X = stackOf E g := by
  funext i
  obtain ⟨a, b, d, rfl⟩ : ∃ a b d, i = ix3 a b d := ⟨i 0, i 1, i 2, by funext k; fin_cases k <;> rfl⟩
  exact hX a b d

/-- The shifted rows, from the padded bias. -/
theorem rows_of (M : Valuation τ sig (Elt Ideal)) (E : S8x1280.Idx → EReal)
    (sr : ∀ (h : Fin 8) (s : Fin 16) (x : Fin 1152),
      M main_v262 (ix3 h s x) = E (ix2 h ⟨128 - (16 * 0 + s.val) + x.val, by omega⟩) ∧
      M main_v263 (ix3 h s x) = E (ix2 h ⟨128 - (16 * 1 + s.val) + x.val, by omega⟩) ∧
      M main_v264 (ix3 h s x) = E (ix2 h ⟨128 - (16 * 2 + s.val) + x.val, by omega⟩) ∧
      M main_v265 (ix3 h s x) = E (ix2 h ⟨128 - (16 * 3 + s.val) + x.val, by omega⟩) ∧
      M main_v266 (ix3 h s x) = E (ix2 h ⟨128 - (16 * 4 + s.val) + x.val, by omega⟩) ∧
      M main_v267 (ix3 h s x) = E (ix2 h ⟨128 - (16 * 5 + s.val) + x.val, by omega⟩) ∧
      M main_v268 (ix3 h s x) = E (ix2 h ⟨128 - (16 * 6 + s.val) + x.val, by omega⟩) ∧
      M main_v269 (ix3 h s x) = E (ix2 h ⟨128 - (16 * 7 + s.val) + x.val, by omega⟩))
    (h : Fin 8) (r : Fin 128) (x : Fin 1152) :
    StableHlo.after last M main_v270 (ix3 h r x) = E (ix2 h ⟨128 - r.val + x.val, by omega⟩) := by
  have e0 := stack_ext E 0 (M main_v262) fun h s x => (sr h s x).1
  have e1 := stack_ext E 1 (M main_v263) fun h s x => (sr h s x).2.1
  have e2 := stack_ext E 2 (M main_v264) fun h s x => (sr h s x).2.2.1
  have e3 := stack_ext E 3 (M main_v265) fun h s x => (sr h s x).2.2.2.1
  have e4 := stack_ext E 4 (M main_v266) fun h s x => (sr h s x).2.2.2.2.1
  have e5 := stack_ext E 5 (M main_v267) fun h s x => (sr h s x).2.2.2.2.2.1
  have e6 := stack_ext E 6 (M main_v268) fun h s x => (sr h s x).2.2.2.2.2.2.1
  have e7 := stack_ext E 7 (M main_v269) fun h s x => (sr h s x).2.2.2.2.2.2.2
  refine (last_rows M (stackOf E) e0 e1 e2 e3 e4 e5 e6 e7 h r x).trans ?_
  refine read_congr E rfl ?_
  show 128 - (16 * (r.val / 16) + r.val % 16) + x.val = 128 - r.val + x.val
  rw [Nat.div_add_mod]

/-- The shifted rows, from the bias. -/
theorem rows_read (W : Valuation τ sig (Elt Ideal)) (h : Fin 8) (r : Fin 128) (x : Fin 1152) :
    StableHlo.after last (StableHlo.after mid (StableHlo.after early W)) main_v270 (ix3 h r x)
      = W main_arg3 (ix3 0 h ⟨min (128 - r.val + x.val - 512) 256, by omega⟩) :=
  (rows_of (StableHlo.after mid (StableHlo.after early W)) (StableHlo.after early W main_v5) (stack_rows _) h r x).trans
    (early_read W h _)

/-- The bias of head `h` in row `r` of a block for window key `w`, where the block starts `v` blocks in. -/
def bias (B : S1x8x257.Idx → EReal) (v : Fin 5) (h : Fin 8) (r : Fin 128) (w : Fin 640) : EReal :=
  if Seen v.val (w.val / 64) (r.val / 64) then
    B (ix3 0 h ⟨min (128 - r.val + ((4 - v.val) * 128 + w.val) - 512) 256, by omega⟩) else ⊥

/-- The table that the call is given. -/
theorem table_read (m : (ℓ : Loc nD τ sig) → Buf (Elt Ideal) ℓ) (c : Dev nD) (v : Fin 5) (h : Fin 8) (r : Fin 128) (w : Fin 640) :
    Gen.V m c main_v347 (ix4 v h r w) = bias (m ((c.tc : Thread nD τ).loc main_arg3)) v h r w := by
  rw [split_host, tables_read _ (last_len _) (last_iota _), tab, bias]
  split
  · exact rows_read _ h r _
  · rfl

end Cert.KernelIdeal.Attn

end
-- ==== Proof.Attn.Block.lean ====
module

public import proofs.«01_k».proof.Proof.Gen.KernelIdeal.Skeleton
public import proofs.«01_k».proof.Proof.Gen.KernelIdeal
public import proofs.«01_k».proof.Proof.Attn.Eq
public import Idealize.ShloMosaic.Lib.Pointwise
public import Idealize.ShloMosaic.Lib.Pipeline.ValueKit

/-! What one block of the attention call computes, element by element. -/

@[expose] public section

set_option maxRecDepth 16384

noncomputable section

open Idealize.ShloMosaic Idealize.ShloMosaic.TcCoe Idealize.SL.Sem

namespace Cert.KernelIdeal.Attn

open Cert.KernelIdeal.Gen Cert.Attn

/-- The keep mask of the lower head of a pair: one on the lanes below 64, zero above. -/
theorem keep_lo_apply (l : Fin 128) :
    k0_pay3 (F := Ideal) (ix2 0 l) = if l.val < 64 then 1 else 0 := by
  unfold k0_pay3
  pointwise
  have h : ∀ l : Fin 128, BitVec.setWidth 32 (IntOp.cmpi CmpIPredicate.slt (BitVec.ofNat 32 l.val) 64#32)
      = if l.val < 64 then 1#32 else 0#32 := by decide
  rw [h]
  split
  · show (((1#32 : BitVec 32).toInt : ℝ) : EReal) = 1
    simp
  · show (((0#32 : BitVec 32).toInt : ℝ) : EReal) = 0
    simp

/-- The keep mask of the upper head of a pair: zero on the lanes below 64, one above. -/
theorem keep_hi_apply (l : Fin 128) :
    k0_pay4 (F := Ideal) (ix2 0 l) = if l.val < 64 then 0 else 1 := by
  unfold k0_pay4
  pointwise
  have h : ∀ l : Fin 128, BitVec.setWidth 32 (IntOp.cmpi CmpIPredicate.sge (BitVec.ofNat 32 l.val) 64#32)
      = if l.val < 64 then 0#32 else 1#32 := by decide
  rw [h]
  split
  · show (((0#32 : BitVec 32).toInt : ℝ) : EReal) = 0
    simp
  · show (((1#32 : BitVec 32).toInt : ℝ) : EReal) = 1
    simp

/-- The scores of a pair of heads from its stacked masked queries, its keys and its two bias tables. -/
def scoreOf (qs : FVec Ideal S256x128 .bf16) (kp : Vec Ideal S1x640x128 .bf16) (b0 b1 : Vec Ideal S1x1x128x640 .f32) :
    FVec Ideal S256x640 .f32 :=
  addf (matmul dot_S256x128_S640x128_S256x640_1_1_0_0_n_n none qs
      (shapeCast S640x128 kp shapeCasts_S1x640x128_S640x128 : FVec Ideal S640x128 .bf16) (constant S256x640 .f32 0x00000000#32))
    (concatenate S256x640 0 [⟨S128x640, shapeCast S128x640 b0 shapeCasts_S1x1x128x640_S128x640⟩,
      ⟨S128x640, shapeCast S128x640 b1 shapeCasts_S1x1x128x640_S128x640⟩] concatenates_S128x640_S128x640_S256x640_d0)

/-- The stacked masked queries of a pair of heads. -/
def qsOf (qp : FVec Ideal S128x128 .bf16) : FVec Ideal S256x128 .bf16 :=
  concatenate S256x128 0 [⟨S128x128, mulf qp (broadcastTo S128x128 (k0_pay3 (F := Ideal)) broadcasts_S1x128_S128x128)⟩,
    ⟨S128x128, mulf qp (broadcastTo S128x128 (k0_pay4 (F := Ideal)) broadcasts_S1x128_S128x128)⟩]
    concatenates_S128x128_S128x128_S256x128_d0

/-- The output of a pair of heads from its scores and its values. -/
def outOf (s : FVec Ideal S256x640 .f32) (vp : Vec Ideal S1x640x128 .bf16) : FVec Ideal S128x128 .f32 :=
  have o : FVec Ideal S256x128 .f32 :=
    divf (matmul dot_S256x640_S640x128_S256x128_1_0_0_1_n_n none (k0_pay15 s)
      (shapeCast S640x128 vp shapeCasts_S1x640x128_S640x128 : FVec Ideal S640x128 .bf16) (constant S256x128 .f32 0x00000000#32))
      (broadcastTo S256x128 (k0_pay14 s) broadcasts_S256x1_S256x128)
  select (cmpi .slt (iota .tc S128x128 32 [1] iota_S128x128_d1_w32) (broadcast S128x128 64#32))
    (extractStridedSlice S128x128 ![0, 0] o slices_S256x128_o0_0_S128x128)
    (extractStridedSlice S128x128 ![128, 0] o slices_S256x128_o128_0_S128x128)

/-- The sum over a pair's 128 lanes with the lower mask is the sum over the lower head. -/
theorem sum_lo (a b : Fin 128 → EReal) :
    ∑ x, (a x * if x.val < 64 then 1 else 0) * b x = ∑ d : Fin 64, a ⟨d, by omega⟩ * b ⟨d, by omega⟩ := by
  rw [show (∑ x, (a x * if x.val < 64 then 1 else 0) * b x)
    = ∑ x : Fin (64 + 64), (a x * if x.val < 64 then 1 else 0) * b x from rfl, Fin.sum_univ_add]
  simp [Fin.castAdd, Fin.castLE]

/-- The sum over a pair's 128 lanes with the upper mask is the sum over the upper head. -/
theorem sum_hi (a b : Fin 128 → EReal) :
    ∑ x, (a x * if x.val < 64 then 0 else 1) * b x
      = ∑ d : Fin 64, a ⟨64 + d, by omega⟩ * b ⟨64 + d, by omega⟩ := by
  rw [show (∑ x, (a x * if x.val < 64 then 0 else 1) * b x)
    = ∑ x : Fin (64 + 64), (a x * if x.val < 64 then 0 else 1) * b x from rfl, Fin.sum_univ_add]
  simp [Fin.natAdd]

/-- The scores of the lower head of a pair. -/
theorem score_lo (qp : FVec Ideal S128x128 .bf16) (kp : Vec Ideal S1x640x128 .bf16) (b0 b1 : Vec Ideal S1x1x128x640 .f32)
    (r : Fin 128) (w : Fin 640) :
    scoreOf (qsOf qp) kp b0 b1 (ix2 ⟨r, by omega⟩ w)
      = (∑ d : Fin 64, qp (ix2 r ⟨d, by omega⟩) * kp (ix3 0 w ⟨d, by omega⟩)) + b0 (ix4 0 0 r w) := by
  unfold scoreOf qsOf
  pointwise
  simp only [r.isLt, dite_true, keep_lo_apply]
  rw [sum_lo (fun x => qp (ix2 r x)) (fun x => kp (ix3 0 w x))]

/-- The scores of the upper head of a pair. -/
theorem score_hi (qp : FVec Ideal S128x128 .bf16) (kp : Vec Ideal S1x640x128 .bf16) (b0 b1 : Vec Ideal S1x1x128x640 .f32)
    (r : Fin 128) (w : Fin 640) :
    scoreOf (qsOf qp) kp b0 b1 (ix2 ⟨128 + r, by omega⟩ w)
      = (∑ d : Fin 64, qp (ix2 r ⟨64 + d, by omega⟩) * kp (ix3 0 w ⟨64 + d, by omega⟩)) + b1 (ix4 0 0 r w) := by
  unfold scoreOf qsOf
  pointwise
  simp only [show ¬ (128 + r.val < 128) by omega, dite_false, keep_hi_apply, Nat.add_sub_cancel_left]
  rw [sum_hi (fun x => qp (ix2 r x)) (fun x => kp (ix3 0 w x))]

/-- One output element of a pair: the softmax average of the values with the scores of the lane's head. -/
theorem out_apply (s : FVec Ideal S256x640 .f32) (vp : Vec Ideal S1x640x128 .bf16) (r l : Fin 128) :
    outOf s vp (ix2 r l) = if l.val < 64 then soft (fun w => s (ix2 ⟨r, by omega⟩ w)) (fun w => vp (ix3 0 w l))
      else soft (fun w => s (ix2 ⟨128 + r, by omega⟩ w)) (fun w => vp (ix3 0 w l)) := by
  unfold outOf k0_pay14 k0_pay15 k0_pay13 soft
  pointwise
  have h : ∀ l : Fin 128, IntOp.cmpi CmpIPredicate.slt (BitVec.ofNat 32 l.val) 64#32
      = if l.val < 64 then 1#1 else 0#1 := by decide
  rw [h]
  by_cases hl : l.val < 64
  · simp only [hl, if_true]; rfl
  · simp only [hl, if_false]; rfl

end Cert.KernelIdeal.Attn

end
-- ==== Proof.Attn.Out.lean ====
module

public import proofs.«01_k».proof.Proof.Gen.KernelIdeal.Value
public import proofs.«01_k».proof.Proof.Attn.Block

/-! What one grid point writes, and what the array holds afterwards. -/

@[expose] public section

set_option maxRecDepth 16384

noncomputable section

open Idealize.ShloMosaic Idealize.ShloMosaic.TcCoe Idealize.SL.Sem

namespace Cert.KernelIdeal.Attn

open Cert.KernelIdeal.Gen Cert.Attn

/-- One element of a block's result, from the block's queries, the whole sequence's keys and values, the block's bias
    tables and the window's first key. -/
def blockVal (X0 : Vec Ideal S1x128x512 .bf16) (X1 X2 : Vec Ideal S1x2048x512 .bf16) (X3 : Vec Ideal S1x8x128x640 .f32)
    (g : ℕ) (hg : g + 640 ≤ 2048) (r : Fin 128) (l : Fin 512) : EReal :=
  soft (fun w : Fin 640 => (∑ d : Fin 64, X0 (ix3 0 r ⟨64 * (l / 64) + d, by omega⟩)
      * X1 (ix3 0 ⟨g + w, by omega⟩ ⟨64 * (l / 64) + d, by omega⟩)) + X3 (ix4 0 ⟨l / 64, by omega⟩ r w))
    (fun w => X2 (ix3 0 ⟨g + w, by omega⟩ l))

/-- A load of a window of 640 rows and one pair's lanes. -/
theorem ld_pair (X : Vec Ideal S1x2048x512 .bf16) (off : Fin 3 → ℕ) (g p : ℕ) (hg : g + 640 ≤ 2048) (hp : p < 4)
    (ho : off = ![0, g, 128 * p]) (inb) (w : Fin 640) (x : Fin 128) :
    View.ld X (Rect.unit (s := S1x2048x512) off ![1, 640, 128] inb) (ix3 0 w x)
      = X (ix3 0 ⟨g + w, by omega⟩ ⟨128 * p + x, by omega⟩) := by
  refine View.ld_unit_apply_of X off ![1, 640, 128] inb (ix3 0 w x) _ ?_
  subst ho
  intro a
  fin_cases a <;> rfl

/-- A load of one head's bias table. -/
theorem ld_bias (X : Vec Ideal S1x8x128x640 .f32) (h : ℕ) (hh : h < 8) (off : Fin 4 → ℕ) (ho : off = ![0, h, 0, 0])
    (inb) (r : Fin 128) (w : Fin 640) :
    View.ld X (Rect.unit (s := S1x8x128x640) off ![1, 1, 128, 640] inb) (ix4 0 0 r w) = X (ix4 0 ⟨h, hh⟩ r w) := by
  refine View.ld_unit_apply_of X off ![1, 1, 128, 640] inb (ix4 0 0 r w) _ ?_
  subst ho
  intro a
  fin_cases a
  · rfl
  · rfl
  · exact (Nat.zero_add _).symm
  · exact (Nat.zero_add _).symm

/-- One pair of heads of a block. -/
theorem pair_apply (X0 : Vec Ideal S1x128x512 .bf16) (X1 X2 : Vec Ideal S1x2048x512 .bf16)
    (X3 : Vec Ideal S1x8x128x640 .f32) (g : ℕ) (hg : g + 640 ≤ 2048) (p : ℕ) (hp : p < 4)
    (qp : FVec Ideal S128x128 .bf16) (kp vp : Vec Ideal S1x640x128 .bf16) (b0 b1 : Vec Ideal S1x1x128x640 .f32)
    (hq : ∀ (r x : Fin 128), qp (ix2 r x) = X0 (ix3 0 r ⟨128 * p + x, by omega⟩))
    (hk : ∀ (w : Fin 640) (x : Fin 128), kp (ix3 0 w x) = X1 (ix3 0 ⟨g + w, by omega⟩ ⟨128 * p + x, by omega⟩))
    (hv : ∀ (w : Fin 640) (x : Fin 128), vp (ix3 0 w x) = X2 (ix3 0 ⟨g + w, by omega⟩ ⟨128 * p + x, by omega⟩))
    (hb0 : ∀ (r : Fin 128) (w : Fin 640), b0 (ix4 0 0 r w) = X3 (ix4 0 ⟨2 * p, by omega⟩ r w))
    (hb1 : ∀ (r : Fin 128) (w : Fin 640), b1 (ix4 0 0 r w) = X3 (ix4 0 ⟨2 * p + 1, by omega⟩ r w))
    (r x : Fin 128) (l : Fin 512) (hl : l.val = 128 * p + x) :
    outOf (scoreOf (qsOf qp) kp b0 b1) vp (ix2 r x) = blockVal X0 X1 X2 X3 g hg r l := by
  have hl' : l = ⟨128 * p + x, by omega⟩ := Fin.ext hl
  rw [hl']
  rw [out_apply]
  unfold blockVal
  by_cases hx : x.val < 64
  · rw [if_pos hx]
    have e1 : (⟨(128 * p + x.val) / 64, by omega⟩ : Fin 8) = ⟨2 * p, by omega⟩ := Fin.ext (by simp only; omega)
    have e2 : ∀ d : Fin 64, (⟨64 * ((128 * p + x.val) / 64) + d, by omega⟩ : Fin 512) = ⟨128 * p + d, by omega⟩ :=
      fun d => Fin.ext (by simp only; omega)
    simp only [score_lo, hq, hk, hv, hb0, e1, e2]
  · rw [if_neg hx]
    have e1 : (⟨(128 * p + x.val) / 64, by omega⟩ : Fin 8) = ⟨2 * p + 1, by omega⟩ := Fin.ext (by simp only; omega)
    have e2 : ∀ d : Fin 64, (⟨64 * ((128 * p + x.val) / 64) + d, by omega⟩ : Fin 512)
        = ⟨128 * p + (64 + d), by omega⟩ := fun d => Fin.ext (by simp only; omega)
    simp only [score_hi, hq, hk, hv, hb1, e1, e2]

/-- The block's stored value, its four pairs side by side. -/
theorem block_apply (X0 : Vec Ideal S1x128x512 .bf16) (X1 X2 : Vec Ideal S1x2048x512 .bf16)
    (X3 : Vec Ideal S1x8x128x640 .f32) (g : ℕ) (hg : g + 640 ≤ 2048) (o1 o2 o3 o4 : Fin 3 → ℕ)
    (h1 : o1 = ![0, g, 128 * 0]) (h2 : o2 = ![0, g, 128 * 1]) (h3 : o3 = ![0, g, 128 * 2]) (h4 : o4 = ![0, g, 128 * 3])
    (i1 i2 i3 i4 j0 j1 j2 j3 j4 j5 j6 j7) (r : Fin 128) (l : Fin 512) :
    k0_pay1 (concatenate S128x512 1 [
      ⟨S128x128, outOf (scoreOf (qsOf (extractStridedSlice S128x128 ![0, 0] (k0_pay2 X0) slices_S128x512_o0_0_S128x128))
        (View.ld X1 (Rect.unit (s := S1x2048x512) o1 ![1, 640, 128] i1))
        (View.ld X3 (Rect.unit (s := S1x8x128x640) ![0, 0, 0, 0] ![1, 1, 128, 640] j0))
        (View.ld X3 (Rect.unit (s := S1x8x128x640) ![0, 1, 0, 0] ![1, 1, 128, 640] j1)))
        (View.ld X2 (Rect.unit (s := S1x2048x512) o1 ![1, 640, 128] i1))⟩,
      ⟨S128x128, outOf (scoreOf (qsOf (extractStridedSlice S128x128 ![0, 128] (k0_pay2 X0) slices_S128x512_o0_128_S128x128))
        (View.ld X1 (Rect.unit (s := S1x2048x512) o2 ![1, 640, 128] i2))
        (View.ld X3 (Rect.unit (s := S1x8x128x640) ![0, 2, 0, 0] ![1, 1, 128, 640] j2))
        (View.ld X3 (Rect.unit (s := S1x8x128x640) ![0, 3, 0, 0] ![1, 1, 128, 640] j3)))
        (View.ld X2 (Rect.unit (s := S1x2048x512) o2 ![1, 640, 128] i2))⟩,
      ⟨S128x128, outOf (scoreOf (qsOf (extractStridedSlice S128x128 ![0, 256] (k0_pay2 X0) slices_S128x512_o0_256_S128x128))
        (View.ld X1 (Rect.unit (s := S1x2048x512) o3 ![1, 640, 128] i3))
        (View.ld X3 (Rect.unit (s := S1x8x128x640) ![0, 4, 0, 0] ![1, 1, 128, 640] j4))
        (View.ld X3 (Rect.unit (s := S1x8x128x640) ![0, 5, 0, 0] ![1, 1, 128, 640] j5)))
        (View.ld X2 (Rect.unit (s := S1x2048x512) o3 ![1, 640, 128] i3))⟩,
      ⟨S128x128, outOf (scoreOf (qsOf (extractStridedSlice S128x128 ![0, 384] (k0_pay2 X0) slices_S128x512_o0_384_S128x128))
        (View.ld X1 (Rect.unit (s := S1x2048x512) o4 ![1, 640, 128] i4))
        (View.ld X3 (Rect.unit (s := S1x8x128x640) ![0, 6, 0, 0] ![1, 1, 128, 640] j6))
        (View.ld X3 (Rect.unit (s := S1x8x128x640) ![0, 7, 0, 0] ![1, 1, 128, 640] j7)))
        (View.ld X2 (Rect.unit (s := S1x2048x512) o4 ![1, 640, 128] i4))⟩]
      concatenates_S128x128_S128x128_S128x128_S128x128_S128x512_d1) (ix3 0 r l)
      = blockVal X0 X1 X2 X3 g hg r l := by
  unfold k0_pay1 k0_pay2
  pointwise
  split
  · next h =>
    refine pair_apply X0 X1 X2 X3 g hg 0 (by omega) _ _ _ _ _ ?_
      (ld_pair X1 o1 g 0 hg (by omega) h1 i1) (ld_pair X2 o1 g 0 hg (by omega) h1 i1)
      (ld_bias X3 0 (by omega) _ rfl j0) (ld_bias X3 1 (by omega) _ rfl j1) r _ l ?_
    · intro r x; pointwise
    · simp only; omega
  split
  · next h h' =>
    refine pair_apply X0 X1 X2 X3 g hg 1 (by omega) _ _ _ _ _ ?_
      (ld_pair X1 o2 g 1 hg (by omega) h2 i2) (ld_pair X2 o2 g 1 hg (by omega) h2 i2)
      (ld_bias X3 2 (by omega) _ rfl j2) (ld_bias X3 3 (by omega) _ rfl j3) r _ l ?_
    · intro r x; pointwise
    · simp only; omega
  split
  · next h h' h'' =>
    refine pair_apply X0 X1 X2 X3 g hg 2 (by omega) _ _ _ _ _ ?_
      (ld_pair X1 o3 g 2 hg (by omega) h3 i3) (ld_pair X2 o3 g 2 hg (by omega) h3 i3)
      (ld_bias X3 4 (by omega) _ rfl j4) (ld_bias X3 5 (by omega) _ rfl j5) r _ l ?_
    · intro r x; pointwise
    · simp only; omega
  · next h h' h'' =>
    refine pair_apply X0 X1 X2 X3 g hg 3 (by omega) _ _ _ _ _ ?_
      (ld_pair X1 o4 g 3 hg (by omega) h4 i4) (ld_pair X2 o4 g 3 hg (by omega) h4 i4)
      (ld_bias X3 6 (by omega) _ rfl j6) (ld_bias X3 7 (by omega) _ rfl j7) r _ l ?_
    · intro r x; pointwise
    · simp only; omega

variable (m : (ℓ : Loc nD τ sig) → Buf (Elt Ideal) ℓ)

/-- The first key of the window of a grid point. -/
def g0 (t : Fin cfg0.N) : ℕ := (t.val % 16 - 4) * 128

theorem g0_le (t : Fin cfg0.N) : g0 t + 640 ≤ 2048 := by unfold g0; omega

theorem offs : ∀ t : Fin grid0.N, k0_off1 (grid0.coords t) = ![0, (t.val % 16 - 4) * 128, 128 * 0]
    ∧ k0_off2 (grid0.coords t) = ![0, (t.val % 16 - 4) * 128, 128 * 1]
    ∧ k0_off3 (grid0.coords t) = ![0, (t.val % 16 - 4) * 128, 128 * 2]
    ∧ k0_off4 (grid0.coords t) = ![0, (t.val % 16 - 4) * 128, 128 * 3] := by decide +kernel

theorem outs_apply (c : Dev nD) (t : Fin cfg0.N) (r : Fin 128) (l : Fin 512) :
    outsAt0 m c t (ix3 0 r l) = blockVal (iblk m c 0 t) (iblk m c 1 t) (iblk m c 2 t) (iblk m c 3 t) (g0 t) (g0_le t) r l := by
  unfold outsAt0
  frame_out
  exact block_apply (iblk m c 0 t) (iblk m c 1 t) (iblk m c 2 t) (iblk m c 3 t) (g0 t) (g0_le t) _ _ _ _
    (offs t).1 (offs t).2.1 (offs t).2.2.1 (offs t).2.2.2 _ _ _ _ _ _ _ _ _ _ _ _ r l

end Cert.KernelIdeal.Attn

end
-- ==== Proof.Attn.Array.lean ====
module

public import proofs.«01_k».proof.Proof.Attn.Prep
public import proofs.«01_k».proof.Proof.Attn.Out

/-! The array that the call leaves, from the queries, keys, values and biases. -/

@[expose] public section

set_option maxRecDepth 16384

noncomputable section

open Idealize.ShloMosaic Idealize.ShloMosaic.TcCoe Idealize.SL.Sem

namespace Cert.KernelIdeal.Attn

open Cert.KernelIdeal.Gen Cert.Attn

/-- The first key of the window of row `i`. -/
abbrev first (i : ℕ) : ℕ := (i / 128 - 4) * 128

/-- The score of row `i` against key `w` of its window, in the head of lane `l`. -/
def score (Q K : S16x2048x512.Idx → EReal) (B : S1x8x257.Idx → EReal) (b : Fin 16) (i : Fin 2048) (l : Fin 512) (w : Fin 640) : EReal :=
  (∑ d : Fin 64, Q (ix3 b i ⟨64 * (l.val / 64) + d.val, by omega⟩)
      * K (ix3 b ⟨first i.val + w.val, by have : first i.val = (i.val / 128 - 4) * 128 := rfl; omega⟩ ⟨64 * (l.val / 64) + d.val, by omega⟩))
    + bias B ⟨min (i.val / 128) 4, by omega⟩ ⟨l.val / 64, by omega⟩ ⟨i.val % 128, by omega⟩ w

/-- Lane `l` of the output row `i`. -/
def value (Q K X : S16x2048x512.Idx → EReal) (B : S1x8x257.Idx → EReal) (b : Fin 16) (i : Fin 2048) (l : Fin 512) : EReal :=
  soft (score Q K B b i l) (fun w : Fin 640 => X (ix3 b ⟨first i.val + w.val, by have : first i.val = (i.val / 128 - 4) * 128 := rfl; omega⟩ l))

variable (m : (ℓ : Loc nD τ sig) → Buf (Elt Ideal) ℓ)

theorem idx4 (t : Fin cfg0.N) : (cfg0.win 4).index t = ![t.val / 16, t.val % 16, 0] := by
  revert t; decide +kernel
theorem idx0 (t : Fin cfg0.N) : (cfg0.win 0).index t = ![t.val / 16, t.val % 16, 0] := by
  revert t; decide +kernel
theorem idx1 (t : Fin cfg0.N) : (cfg0.win 1).index t = ![t.val / 16, 0, 0] := by
  revert t; decide +kernel
theorem idx2 (t : Fin cfg0.N) : (cfg0.win 2).index t = ![t.val / 16, 0, 0] := by
  revert t; decide +kernel
theorem idx3 (t : Fin cfg0.N) : (cfg0.win 3).index t = ![min (t.val % 16) 4, 0, 0, 0] := by
  revert t; decide +kernel

/-- There are 256 grid points. -/
theorem t_lt (t : Fin cfg0.N) : t.val < 256 := t.isLt

/-- Where the output block of a grid point lies. -/
theorem place (t : Fin cfg0.N) (r : Fin 128) (l : Fin 512) :
    (win0_4.blk t).view.emb (ix3 0 r l) = (ix3 ⟨t.val / 16, by have := t_lt t; omega⟩ ⟨128 * (t.val % 16) + r.val, by omega⟩ l : S16x2048x512.Idx) := by
  have e := idx4 t
  have h0 : ((win0_4.blk t).view.emb (ix3 0 r l) 0).val = t.val / 16 := by blk_simp [e]; exact Nat.add_zero _
  have h1 : ((win0_4.blk t).view.emb (ix3 0 r l) 1).val = 128 * (t.val % 16) + r.val := by blk_simp [e]; omega
  have h2 : ((win0_4.blk t).view.emb (ix3 0 r l) 2).val = l.val := by blk_simp [e]
  funext a
  fin_cases a
  · exact Fin.ext h0
  · exact Fin.ext h1
  · exact Fin.ext h2

theorem q_read (c : Dev nD) (t : Fin cfg0.N) (r : Fin 128) (d : Fin 512) :
    iblk m c 0 t (ix3 0 r d) = m ((c : Thread nD τ).loc main_arg0) (ix3 ⟨t.val / 16, by have := t_lt t; omega⟩ ⟨128 * (t.val % 16) + r.val, by omega⟩ d) := by
  blk_point [iblk, V_main_arg0, idx0 t]

theorem k_read (c : Dev nD) (t : Fin cfg0.N) (r : Fin 2048) (d : Fin 512) :
    iblk m c 1 t (ix3 0 r d) = m ((c : Thread nD τ).loc main_arg1) (ix3 ⟨t.val / 16, by have := t_lt t; omega⟩ r d) := by
  blk_point [iblk, V_main_arg1, idx1 t]

theorem v_read (c : Dev nD) (t : Fin cfg0.N) (r : Fin 2048) (d : Fin 512) :
    iblk m c 2 t (ix3 0 r d) = m ((c : Thread nD τ).loc main_arg2) (ix3 ⟨t.val / 16, by have := t_lt t; omega⟩ r d) := by
  blk_point [iblk, V_main_arg2, idx2 t]

theorem b_read (c : Dev nD) (t : Fin cfg0.N) (h : Fin 8) (r : Fin 128) (w : Fin 640) :
    iblk m c 3 t (ix4 0 h r w) = Gen.V m c main_v347 (ix4 ⟨min (t.val % 16) 4, by omega⟩ h r w) := by
  blk_point [iblk, idx3 t]

theorem array_read (c : Dev nD) :
    (dats m 0 c).arrAt 4 cfg0.N = (fun i => value (m ((c : Thread nD τ).loc main_arg0)) (m ((c : Thread nD τ).loc main_arg1))
      (m ((c : Thread nD τ).loc main_arg2)) (m ((c : Thread nD τ).loc main_arg3)) (i 0) (i 1) (i 2) : S16x2048x512.Idx → EReal) := by
  refine (dats m 0 c).arrAt_eq_of_covers 4 _ (by decide +kernel) fun t hf y => ?_
  blk_simp
  rw [after0_4]
  obtain ⟨r, l, rfl⟩ : ∃ (r : Fin 128) (l : Fin 512), y = (ix3 0 r l : S1x128x512.Idx) := ⟨y 1, y 2, by
    funext k; fin_cases k
    · exact Fin.ext (by have := (y 0).isLt; have : (y 0).val < 1 := this; show (y 0).val = 0; omega)
    · rfl
    · rfl⟩
  have ht := t_lt t
  rw [outs_apply, place]
  show blockVal _ _ _ _ _ _ r l = value _ _ _ _ ⟨t.val / 16, by omega⟩ ⟨128 * (t.val % 16) + r.val, by omega⟩ l
  unfold blockVal value score
  have hf : g0 t = first (128 * (t.val % 16) + r.val) := by
    show (t.val % 16 - 4) * 128 = ((128 * (t.val % 16) + r.val) / 128 - 4) * 128; omega
  refine congrArg₂ soft (funext fun w => ?_) (funext fun w => ?_)
  · refine congrArg₂ (· + ·) (Finset.sum_congr rfl fun d _ => ?_) ?_
    · rw [q_read, k_read]
      refine congrArg₂ (· * ·) rfl (congrArg _ ?_)
      refine congrArg₂ (fun a b => ix3 _ a b) (Fin.ext ?_) rfl
      show g0 t + w.val = _ + w.val
      rw [hf]
    · rw [b_read, table_read]
      refine congr (congr (congrArg _ (Fin.ext ?_)) rfl) (Fin.ext ?_) |> fun h => congrFun h w
      · show min (t.val % 16) 4 = min ((128 * (t.val % 16) + r.val) / 128) 4; omega
      · show r.val = (128 * (t.val % 16) + r.val) % 128; omega
  · rw [v_read]
    refine congrArg _ ?_
    refine congrArg₂ (fun a b => ix3 _ a b) (Fin.ext ?_) rfl
    show g0 t + w.val = _ + w.val
    rw [hf]

end Cert.KernelIdeal.Attn

end
-- ==== Proof.Attn.Agree.lean ====
module

public import proofs.«01_k».proof.Proof.Attn.RefRead
public import proofs.«01_k».proof.Proof.Attn.Array

/-! The reference's result is the kernel's, on real queries, keys and biases. -/

@[expose] public section

set_option maxRecDepth 16384

noncomputable section

open Idealize.ShloMosaic Idealize.ShloMosaic.TcCoe Idealize.SL.Sem

namespace Cert.KernelIdeal.Attn

open Cert.Attn Cert.ReferenceIdeal.Read Cert.ReferenceIdeal.Attn

/-- Every element is a real number. -/
def Real {ι : Type} (x : ι → EReal) : Prop := ∃ r : ι → ℝ, x = fun i => (r i : EReal)

theorem dot_real (Q K : S16x2048x512.Idx → EReal) (B : S1x8x257.Idx → EReal) (hQ : Real Q) (hK : Real K) (hB : Real B)
    (c : Fin 32) (b : Fin 16) (h : Fin 8) (q : Fin 64) (kk : Fin 576) (hk : 512 ≤ 64 * c.val + kk.val) :
    ∃ r : ℝ, dot Q K B c b h q kk hk = r := by
  obtain ⟨q, rfl⟩ := hQ
  obtain ⟨k, rfl⟩ := hK
  obtain ⟨p, rfl⟩ := hB
  unfold dot
  simp only [← EReal.coe_mul]
  rw [sum_coe, ← EReal.coe_add]
  exact ⟨_, rfl⟩

/-- A score of the window that the table hides. -/
theorem hidden (Q K : S16x2048x512.Idx → EReal) (B : S1x8x257.Idx → EReal) (b : Fin 16) (i : Fin 2048) (l : Fin 512) (w : Fin 640)
    (h : ¬ Seen (min (i.val / 128) 4) (w.val / 64) (i.val % 128 / 64)) : score Q K B b i l w = ⊥ := by
  unfold score bias
  rw [if_neg h]
  exact EReal.add_bot _

theorem agree (Q K X : S16x2048x512.Idx → EReal) (B : S1x8x257.Idx → EReal) (hQ : Real Q) (hK : Real K) (hB : Real B)
    (b : Fin 16) (i : Fin 2048) (l : Fin 512) : value Q K X B b i l = val_main_v93 (F := Ideal) Q K X B (ix3 b i l) := by
  have hf : first i.val = (i.val / 128 - 4) * 128 := rfl
  have hi := i.isLt
  have hl := l.isLt
  rw [result_read]
  unfold value
  refine soft_shift (first i.val + 512) (64 * (i.val / 64)) _ _ _ _ ?_ ⟨512 + i.val % 64, by omega⟩ ?_ ?_ ?_ ?_
  · intro k
    rw [score_read]
    split
    · rename_i hk
      obtain ⟨r, e⟩ := dot_real Q K B hQ hK hB _ b _ _ k hk
      rw [e]
      exact EReal.coe_ne_top r
    · exact bot_ne_top
  · rw [score_read, dif_pos (by dsimp only; omega)]
    obtain ⟨r, e⟩ := dot_real Q K B hQ hK hB ⟨i.val / 64, by omega⟩ b ⟨l.val / 64, by omega⟩ ⟨i.val % 64, by omega⟩ ⟨512 + i.val % 64, by omega⟩ (by dsimp only; omega)
    rw [e]
    exact EReal.coe_ne_bot r
  · intro w k e
    have hw := w.isLt
    have hk := k.isLt
    have hs : Seen (min (i.val / 128) 4) (w.val / 64) (i.val % 128 / 64) := by unfold Seen; omega
    constructor
    · rw [score_read, dif_pos (by dsimp only; omega)]
      unfold score bias dot
      rw [if_pos hs]
      refine congrArg₂ (· + ·) (Finset.sum_congr rfl fun d _ => congrArg₂ (· * ·) ?_ ?_) ?_
      · exact read_at (f := fun j => Q (ix3 b j ⟨64 * (l.val / 64) + d.val, by omega⟩)) (by dsimp only; omega)
      · exact read_at (f := fun j => K (ix3 b j ⟨64 * (l.val / 64) + d.val, by omega⟩)) (by dsimp only; omega)
      · exact read_at (f := fun j => B (ix3 0 ⟨l.val / 64, by omega⟩ j)) (by dsimp only; omega)
    · rw [band_v X _ b _ k _ (by dsimp only; omega)]
      have e1 : (⟨first i.val + w.val, by omega⟩ : Fin 2048) = ⟨64 * (i.val / 64) + k.val - 512, by omega⟩ := Fin.ext (by dsimp only; omega)
      have e2 : l = ⟨64 * (l.val / 64) + l.val % 64, by omega⟩ := Fin.ext (by dsimp only; omega)
      exact congrArg X (congrArg₂ (fun (j : Fin 2048) (l : Fin 512) => (ix3 b j l : S16x2048x512.Idx)) e1 e2)
  · intro w hw
    refine hidden Q K B b i l w fun hs => ?_
    unfold Seen at hs
    have := w.isLt
    exact hw ⟨w.val + (first i.val + 512) - 64 * (i.val / 64), by omega⟩ (by dsimp only; omega)
  · intro k hk
    have := k.isLt
    rw [score_read, dif_neg]
    intro h
    dsimp only at h
    exact hk ⟨k.val + 64 * (i.val / 64) - (first i.val + 512), by omega⟩ (by dsimp only; omega)

end Cert.KernelIdeal.Attn

end
-- ==== Proof.Attn.Finite.lean ====
module

public import proofs.«01_k».proof.Defs
public import proofs.«01_k».proof.Proof.Gen.Pre_finite
public import proofs.«01_k».proof.Proof.Attn.Agree
public import Idealize.ShloMosaic.Lib.ReduceAll

/-! What the precondition says: the queries, keys and biases are real numbers. -/

@[expose] public section

set_option maxRecDepth 16384

noncomputable section

open Idealize.ShloMosaic Idealize.ShloMosaic.TcCoe Idealize.SL.Sem

namespace Cert.KernelIdeal.Attn

/-- An absolute value below infinity is that of a real number. -/
theorem real_of_lt (x : EReal) (h : Ideal.cmp .olt (max x (-x)) (Ideal.ofBits FTy.f32 2139095040#32) = 1#1) : ∃ r : ℝ, x = r := by
  have e : Ideal.ofBits FTy.f32 2139095040#32 = ⊤ := by simp [Ideal.ofBits, Ideal.ieee]
  rw [e] at h
  induction x using EReal.rec with
  | bot => simp [Ideal.cmp] at h
  | coe r => exact ⟨r, rfl⟩
  | top => simp [Ideal.cmp] at h

theorem real_of_forall {ι : Type} (x : ι → EReal) (h : ∀ i, ∃ r : ℝ, x i = r) : Real x := by
  choose r hr using h
  exact ⟨r, funext hr⟩

/-- A rank-zero array has one index. -/
theorem one_index : Subsingleton Cert.Pre_finite.S_.Idx := ⟨fun a b => funext fun k => k.elim0⟩

theorem real_args (Q K X : S16x2048x512.Idx → EReal) (B : S1x8x257.Idx → EReal)
    (h : Cert.Pre_finite.fn (F := Ideal) Q K X B = fun _ => 1#1) : Real Q ∧ Real K ∧ Real B := by
  have e := congrFun h (Shape.Idx.first Cert.Pre_finite.Facts.h_S_)
  unfold Cert.Pre_finite.fn at e
  dsimp only at e
  obtain ⟨e1, e2⟩ := IntOp.andi_eq_one.1 e
  obtain ⟨e0, e1⟩ := IntOp.andi_eq_one.1 e1
  haveI := one_index
  exact ⟨real_of_forall _ fun i => real_of_lt _ (Host.reduce_andi_all _ _ _ _ _ e0 i),
    real_of_forall _ fun i => real_of_lt _ (Host.reduce_andi_all _ _ _ _ _ e1 i),
    real_of_forall _ fun i => real_of_lt _ (Host.reduce_andi_all _ _ _ _ _ e2 i)⟩

end Cert.KernelIdeal.Attn

end
-- ==== Proof.Inproj.Eq.lean ====
module

public import Idealize.ShloMosaic.PureOps.Ideal
public import Idealize.ShloMosaic.Lib.ValueIdx
public import Idealize.ShloMosaic.Lib.Pointwise

/-! The arithmetic of the input projection: the modulated norm, the projection, the norm of a head. -/

@[expose] public section

noncomputable section

open Idealize.ShloMosaic Idealize.ShloMosaic.TcCoe Idealize.SL.Sem

namespace Cert.Inproj

/-- The modulated norm of a row `x` with gain `g`, shift `sh` and scale `sc`, at `k`. -/
def hid (x g sh sc : Fin 1024 → EReal) (k : Fin 1024) : EReal :=
  x k * Ideal.rsqrt (Ideal.div (∑ j, x j * x j) (Ideal.ofBits FTy.f32 1149239296#32) + Ideal.ofBits FTy.f32 897988541#32) * g k
      * (Ideal.ofBits FTy.f32 1065353216#32 + sc k) + sh k

/-- The factor of a head of 64 lanes `y`: the inverse root of the mean of the squares. -/
def invRoot (y : Fin 64 → EReal) : EReal :=
  Ideal.rsqrt (Ideal.div (∑ d, y d * y d) (Ideal.ofBits FTy.f32 1115684864#32) + Ideal.ofBits FTy.f32 897988541#32)

theorem one_bits : Ideal.ofBits FTy.f32 1065353216#32 = 1 := by
  simp [Ideal.ofBits, Ideal.ieee]
  rw [← EReal.coe_mul, ← EReal.coe_one]
  norm_num

theorem zero_bits : Ideal.ofBits FTy.f32 0#32 = 0 := by
  simp [Ideal.ofBits, Ideal.ieee]

/-- The product with 1/64 is the quotient by 64. -/
theorem mul_inv64 (x : EReal) : x * Ideal.ofBits FTy.f32 1015021568#32 = Ideal.div x (Ideal.ofBits FTy.f32 1115684864#32) := by
  have h : Ideal.ofBits FTy.f32 1115684864#32 = ((64 : ℝ) : EReal) := by
    simp [Ideal.ofBits, Ideal.ieee]
    rw [← EReal.coe_mul]
    norm_num
  have h' : Ideal.ofBits FTy.f32 1015021568#32 = ((1 / 64 : ℝ) : EReal) := by
    simp [Ideal.ofBits, Ideal.ieee]
    rw [← EReal.coe_mul]
    norm_num
  rw [h, h', Ideal.div_coe (by norm_num)]

/-- A sum over a pair's 128 lanes that keeps the lanes of one head is the sum over that head. -/
theorem sum_head (f : Fin 128 → EReal) (l : Fin 128) :
    ∑ x, f x * (if x.val / 64 = l.val / 64 then 1 else 0) = ∑ d : Fin 64, f ⟨64 * (l.val / 64) + d.val, by omega⟩ := by
  rw [show (∑ x, f x * (if x.val / 64 = l.val / 64 then 1 else 0))
    = ∑ x : Fin (64 + 64), f x * (if x.val / 64 = l.val / 64 then 1 else 0) from rfl, Fin.sum_univ_add]
  have hl := l.isLt
  have h0 : ∀ d : Fin 64, (Fin.castAdd 64 d).val / 64 = 0 := fun d => by show d.val / 64 = 0; omega
  have h1 : ∀ d : Fin 64, (Fin.natAdd 64 d).val / 64 = 1 := fun d => by show (64 + d.val) / 64 = 1; omega
  simp only [h0, h1]
  by_cases h : l.val / 64 = 0
  · simp only [h, if_true, Nat.one_ne_zero, if_false, mul_one, mul_zero, Finset.sum_const_zero, add_zero]
    exact Finset.sum_congr rfl fun d _ => congrArg f (Fin.ext (by show d.val = 64 * 0 + d.val; omega))
  · have h' : l.val / 64 = 1 := by omega
    simp only [h', if_true, Nat.zero_ne_one, if_false, mul_one, mul_zero, Finset.sum_const_zero, zero_add]
    exact Finset.sum_congr rfl fun d _ => congrArg f (Fin.ext (by show 64 + d.val = 64 * 1 + d.val; omega))

section
variable (X : Fin 16 → Fin 2048 → Fin 1024 → EReal) (g : Fin 1024 → EReal) (sh sc : Fin 16 → Fin 1024 → EReal)
  (W : Fin 1024 → Fin 5376 → EReal)

/-- Column `j` of the projection of the modulated norm of row `i`. -/
def proj (b : Fin 16) (i : Fin 2048) (j : Fin 5376) : EReal :=
  ∑ k : Fin 1024, hid (X b i) g (sh b) (sc b) k * W k j

/-- Lane `l` of the queries: normed within its head, with the gain and the score's scale. -/
def query (gq : Fin 64 → EReal) (b : Fin 16) (i : Fin 2048) (l : Fin 512) : EReal :=
  proj X g sh sc W b i ⟨1792 + l.val, by omega⟩
    * invRoot (fun d => proj X g sh sc W b i ⟨1792 + (64 * (l.val / 64) + d.val), by omega⟩)
    * (gq ⟨l.val % 64, by omega⟩ * Ideal.ofBits FTy.f32 0x3E000000#32)

/-- Lane `l` of the keys: normed within its head, with the gain. -/
def key (gk : Fin 64 → EReal) (b : Fin 16) (i : Fin 2048) (l : Fin 512) : EReal :=
  proj X g sh sc W b i ⟨1792 + (512 + l.val), by omega⟩
    * invRoot (fun d => proj X g sh sc W b i ⟨1792 + (512 + (64 * (l.val / 64) + d.val)), by omega⟩)
    * gk ⟨l.val % 64, by omega⟩

end

end Cert.Inproj

end
-- ==== Proof.Inproj.Lit.lean ====
module

public import proofs.«01_k».proof.Kernel2Ideal

/-! The table that sums a head's lanes. -/

@[expose] public section

set_option maxRecDepth 65536

namespace Cert.Kernel2Ideal.Inproj

/-- The table's entries: one inside a head of 64 lanes, zero across two. -/
theorem lit_entries : ∀ a b : Fin 128, lit0t (128 * a.val + b.val) = if a.val / 64 = b.val / 64 then 0x3F80#16 else 0#16 := by
  decide +kernel

end Cert.Kernel2Ideal.Inproj

end
-- ==== Proof.Inproj.Prep.lean ====
module

public import proofs.«01_k».proof.Proof.Inproj.Eq
public import proofs.«01_k».proof.Proof.Inproj.Lit
public import proofs.«01_k».proof.Proof.Gen.Kernel2Ideal.Frame
public import Idealize.ShloMosaic.Lib.StableHlo.RunRead
public import Idealize.ShloMosaic.Lib.Pointwise

/-! The arrays that the input projection's call is given, in terms of the arguments. -/

@[expose] public section

set_option maxRecDepth 65536

noncomputable section

open Idealize.ShloMosaic Idealize.ShloMosaic.TcCoe Idealize.SL.Sem

namespace Cert.Kernel2Ideal.Inproj

open Cert.Kernel2Ideal.Gen Cert.Inproj

theorem bf_one : Ideal.ofBits FTy.bf16 0x3F80#16 = 1 := by
  simp [Ideal.ofBits, Ideal.ieee]
  rw [← EReal.coe_mul, ← EReal.coe_one]
  norm_num

theorem bf_zero : Ideal.ofBits FTy.bf16 0#16 = 0 := by
  simp [Ideal.ofBits, Ideal.ieee]

variable (m : (ℓ : Loc nD τ sig) → Buf (Elt Ideal) ℓ) (c : Dev nD)

theorem table_read (a b : Fin 128) : Gen.V m c main_cst (ix2 a b) = (if a.val / 64 = b.val / 64 then (1 : EReal) else 0 : EReal) := by
  have e : Gen.V m c main_cst = fun i => FloatOps.ofBits (F := Ideal) .bf16 (lit0 (S128x128.rowMajor i)) := by
    show StableHlo.after hostOps0 _ _ = _
    after_reads_simp
    rfl
  rw [e]
  have h : lit0 (S128x128.rowMajor (ix2 a b)) = lit0t (128 * a.val + b.val) := by
    refine congrArg lit0t (?_ : (S128x128.rowMajor (ix2 a b)).val = _)
    rw [Shape.rowMajor_val_two]
    show a.val * 128 + b.val = _
    omega
  show Ideal.ofBits FTy.bf16 _ = _
  rw [h, lit_entries]
  split
  · exact bf_one
  · exact bf_zero

/-- The norm's gain. -/
theorem gain_read (k : Fin 1024) : Gen.V m c main_v5 (ix2 0 k) = m ((c : Thread nD τ).loc main_arg1) (ix2 0 k) := by
  show StableHlo.after hostOps0 _ _ _ = _
  after_reads_simp
  pointwise

theorem shift_read (b : Fin 16) (k : Fin 1024) : Gen.V m c main_v6 (ix3 b 0 k) = m ((c : Thread nD τ).loc main_arg2) (ix2 b k) := by
  show StableHlo.after hostOps0 _ _ _ = _
  after_reads_simp
  pointwise

theorem scale_read (b : Fin 16) (k : Fin 1024) : Gen.V m c main_v7 (ix3 b 0 k) = m ((c : Thread nD τ).loc main_arg3) (ix2 b k) := by
  show StableHlo.after hostOps0 _ _ _ = _
  after_reads_simp
  pointwise

theorem weight_read (k : Fin 1024) (j : Fin 5376) : Gen.V m c main_v2 (ix2 k j) = m ((c : Thread nD τ).loc main_arg4) (ix3 0 k j) := by
  show StableHlo.after hostOps0 _ _ _ = _
  after_reads_simp
  pointwise

theorem qgain_read (l : Fin 512) : Gen.V m c main_v13 (ix2 0 l)
    = HMul.hMul (α := EReal) (β := EReal) (γ := EReal) (m ((c : Thread nD τ).loc main_arg5) (ix2 0 ⟨l.val % 64, by omega⟩)) (Ideal.ofBits FTy.f32 0x3E000000#32) := by
  show StableHlo.after hostOps0 _ _ _ = _
  after_reads_simp
  pointwise

theorem kgain_read (l : Fin 512) : Gen.V m c main_v19 (ix2 0 l)
    = HMul.hMul (α := EReal) (β := EReal) (γ := EReal) (m ((c : Thread nD τ).loc main_arg6) (ix2 0 ⟨l.val % 64, by omega⟩)) (Ideal.ofBits FTy.f32 0x3F800000#32) := by
  show StableHlo.after hostOps0 _ _ _ = _
  after_reads_simp
  pointwise

end Cert.Kernel2Ideal.Inproj

end
-- ==== Proof.Inproj.Block.lean ====
module

public import proofs.«01_k».proof.Proof.Gen.Kernel2Ideal.Skeleton
public import proofs.«01_k».proof.Proof.Gen.Kernel2Ideal
public import proofs.«01_k».proof.Proof.Inproj.Eq
public import Idealize.ShloMosaic.Lib.Pointwise
public import Idealize.ShloMosaic.Lib.Pipeline.ValueKit

/-! What one block of the projection computes, element by element. -/

@[expose] public section

set_option maxRecDepth 16384

noncomputable section

open Idealize.ShloMosaic Idealize.ShloMosaic.TcCoe Idealize.SL.Sem

namespace Cert.Kernel2Ideal.Inproj

open Cert.Kernel2Ideal.Gen Cert.Inproj

/-- The modulated norm of a block's row. -/
theorem hid_apply (v0 : Vec Ideal S1x256x1024 .f32) (v2 : Vec Ideal S1x1024 .f32) (v4 v6 : Vec Ideal S1x1x1024 .f32) (r : Fin 256) (k : Fin 1024) :
    k0_pay4 v0 v2 v4 v6 (ix2 r k) = hid (fun k => v0 (ix3 0 r k)) (fun k => v2 (ix2 0 k)) (fun k => v4 (ix3 0 0 k)) (fun k => v6 (ix3 0 0 k)) k := by
  unfold k0_pay4 hid
  pointwise

/-- The columns of the recurrence. -/
theorem rwkv_apply (v0 : Vec Ideal S1x256x1024 .f32) (v2 : Vec Ideal S1x1024 .f32) (v4 v6 : Vec Ideal S1x1x1024 .f32)
    (w : Vec Ideal S1024x1792 .bf16) (r : Fin 256) (l : Fin 1792) :
    k0_pay5 v0 v2 v4 v6 w (ix3 0 r l) = ∑ k : Fin 1024, k0_pay4 v0 v2 v4 v6 (ix2 r k) * w (ix2 k l) := by
  unfold k0_pay5
  pointwise

/-- The columns of the attention. -/
theorem att_apply (h : FVec Ideal S256x1024 .bf16) (w : Vec Ideal S1024x1536 .bf16) (r : Fin 256) (l : Fin 1536) :
    k0_pay6 h w (ix2 r l) = ∑ k : Fin 1024, h (ix2 r k) * w (ix2 k l) := by
  unfold k0_pay6
  pointwise

/-- The gates. -/
theorem gate_apply (h : FVec Ideal S256x1024 .bf16) (w : Vec Ideal S1024x2048 .bf16) (r : Fin 256) (l : Fin 2048) :
    k0_pay3 h w (ix3 0 r l) = Ideal.logistic (∑ k : Fin 1024, h (ix2 r k) * w (ix2 k l)) := by
  unfold k0_pay3 Ideal.logistic
  pointwise
  simp only [zero_bits, one_bits, zero_sub]

/-- The values. -/
theorem v_apply (p : FVec Ideal S256x1536 .f32) (r : Fin 256) (l : Fin 512) :
    k0_pay2 p (ix3 0 r l) = p (ix2 r ⟨1024 + l.val, by omega⟩) := by
  unfold k0_pay2
  pointwise

/-- Two heads side by side, each divided by the root of the mean of its squares. -/
def normed (x : FVec Ideal S256x128 .f32) (o : Vec Ideal S128x128 .bf16) : FVec Ideal S256x128 .f32 :=
  mulf x (rsqrt (addf (mulf (matmul (φ₂ := .bf16) dot_S256x128_S128x128_S256x128_1_0_0_1_n_n none (truncf .bf16 (mulf x x) bitsLt_bf16_f32) o
    (constant S256x128 .f32 0x00000000#32)) (broadcast S256x128 (Scalar.ofBits .f32 0x3C800000#32)))
    (broadcast S256x128 (Scalar.ofBits .f32 0x358637BD#32))))

theorem normed_apply (x : FVec Ideal S256x128 .f32) (o : Vec Ideal S128x128 .bf16)
    (ho : ∀ a b : Fin 128, o (ix2 a b) = if a.val / 64 = b.val / 64 then 1 else 0) (r : Fin 256) (l : Fin 128) :
    normed x o (ix2 r l) = x (ix2 r l) * invRoot (fun d => x (ix2 r ⟨64 * (l.val / 64) + d.val, by omega⟩)) := by
  unfold normed invRoot
  pointwise
  simp only [ho]
  rw [sum_head (fun j => x (ix2 r j) * x (ix2 r j)), mul_inv64]

/-- Eight heads, normed. -/
def normed4 (p : FVec Ideal S256x512 .f32) (o : Vec Ideal S128x128 .bf16) : FVec Ideal S256x512 .f32 :=
  concatenate S256x512 1 [⟨S256x128, normed (extractStridedSlice S256x128 ![0, 0] p slices_S256x512_o0_0_S256x128) o⟩,
    ⟨S256x128, normed (extractStridedSlice S256x128 ![0, 128] p slices_S256x512_o0_128_S256x128) o⟩,
    ⟨S256x128, normed (extractStridedSlice S256x128 ![0, 256] p slices_S256x512_o0_256_S256x128) o⟩,
    ⟨S256x128, normed (extractStridedSlice S256x128 ![0, 384] p slices_S256x512_o0_384_S256x128) o⟩]
    concatenates_S256x128_S256x128_S256x128_S256x128_S256x512_d1

theorem normed4_apply (p : FVec Ideal S256x512 .f32) (o : Vec Ideal S128x128 .bf16)
    (ho : ∀ a b : Fin 128, o (ix2 a b) = if a.val / 64 = b.val / 64 then 1 else 0) (r : Fin 256) (l : Fin 512) :
    normed4 p o (ix2 r l) = p (ix2 r l) * invRoot (fun d => p (ix2 r ⟨64 * (l.val / 64) + d.val, by omega⟩)) := by
  have key : ∀ (n : ℕ) (x : FVec Ideal S256x128 .f32) (hn : n < 4) (hx : ∀ j : Fin 128, x (ix2 r j) = p (ix2 r ⟨128 * n + j.val, by omega⟩))
      (j : Fin 128) (hj : 128 * n + j.val = l.val),
      normed x o (ix2 r j) = p (ix2 r l) * invRoot (fun d => p (ix2 r ⟨64 * (l.val / 64) + d.val, by omega⟩)) := by
    intro n x hn hx j hj
    rw [normed_apply x o ho, hx]
    refine congrArg₂ (· * ·) ?_ (congrArg invRoot (funext fun d => ?_))
    · exact congrArg (fun j => p (ix2 r j)) (Fin.ext hj)
    · rw [hx]
      exact congrArg (fun j => p (ix2 r j)) (Fin.ext (by dsimp only; omega))
  unfold normed4
  pointwise
  split
  · exact key 0 _ (by omega) (fun j => by pointwise) _ (by dsimp only; omega)
  split
  · exact key 1 _ (by omega) (fun j => by pointwise) _ (by dsimp only; omega)
  split
  · exact key 2 _ (by omega) (fun j => by pointwise) _ (by dsimp only; omega)
  · exact key 3 _ (by omega) (fun j => by pointwise) _ (by dsimp only; omega)

/-- Eight heads with the gains `g` of their lanes, as a block. -/
def gained (z : FVec Ideal S256x512 .f32) (g : Vec Ideal S1x512 .f32) : FVec Ideal S1x256x512 .bf16 :=
  shapeCast S1x256x512 (truncf .bf16 (mulf z (broadcastTo S256x512 (shapeCast S1x512 g shapeCasts_S1x512_S1x512 : FVec Ideal S1x512 .f32)
    broadcasts_S1x512_S256x512)) bitsLt_bf16_f32) shapeCasts_S256x512_S1x256x512

theorem gained_apply (z : FVec Ideal S256x512 .f32) (g : Vec Ideal S1x512 .f32) (r : Fin 256) (l : Fin 512) :
    gained z g (ix3 0 r l) = z (ix2 r l) * g (ix2 0 l) := by
  unfold gained
  pointwise

/-- The queries' block: the first 512 of the attention's columns, normed, with the gain. -/
theorem q_apply (h : FVec Ideal S256x1024 .bf16) (w : Vec Ideal S1024x1536 .bf16) (o : Vec Ideal S128x128 .bf16) (g : Vec Ideal S1x512 .f32)
    (ho : ∀ a b : Fin 128, o (ix2 a b) = if a.val / 64 = b.val / 64 then 1 else 0) (r : Fin 256) (l : Fin 512) :
    k0_pay15 (k0_pay8 g) (k0_pay9 h w o) (k0_pay10 h w o) (k0_pay11 h w o) (k0_pay12 h w) (k0_pay13 h w o) (k0_pay14 (F := Ideal)) (ix3 0 r l)
      = k0_pay6 h w (ix2 r ⟨l.val, by omega⟩) * invRoot (fun d => k0_pay6 h w (ix2 r ⟨64 * (l.val / 64) + d.val, by omega⟩)) * g (ix2 0 l) := by
  have hp : ∀ j : Fin 512, k0_pay7 h w (ix2 r j) = k0_pay6 h w (ix2 r ⟨j.val, by omega⟩) := fun j => by
    unfold k0_pay7
    pointwise
  have e : k0_pay15 (k0_pay8 g) (k0_pay9 h w o) (k0_pay10 h w o) (k0_pay11 h w o) (k0_pay12 h w) (k0_pay13 h w o) (k0_pay14 (F := Ideal))
      = gained (normed4 (k0_pay7 h w) o) g := rfl
  rw [e, gained_apply, normed4_apply _ o ho]
  simp only [hp]

/-- The keys' block: the next 512 columns. -/
theorem k_apply (p : FVec Ideal S256x1536 .f32) (o : Vec Ideal S128x128 .bf16) (g : Vec Ideal S1x512 .f32)
    (ho : ∀ a b : Fin 128, o (ix2 a b) = if a.val / 64 = b.val / 64 then 1 else 0) (r : Fin 256) (l : Fin 512) :
    k0_pay1 o (k0_pay17 g) (k0_pay18 p o) (k0_pay19 p o) (k0_pay20 p o) (k0_pay21 p) (k0_pay22 p) (ix3 0 r l)
      = p (ix2 r ⟨512 + l.val, by omega⟩) * invRoot (fun d => p (ix2 r ⟨512 + (64 * (l.val / 64) + d.val), by omega⟩)) * g (ix2 0 l) := by
  have hp : ∀ j : Fin 512, k0_pay16 p (ix2 r j) = p (ix2 r ⟨512 + j.val, by omega⟩) := fun j => by
    unfold k0_pay16
    pointwise
  have e : k0_pay1 o (k0_pay17 g) (k0_pay18 p o) (k0_pay19 p o) (k0_pay20 p o) (k0_pay21 p) (k0_pay22 p)
      = gained (normed4 (k0_pay16 p) o) g := rfl
  rw [e, gained_apply, normed4_apply _ o ho]
  simp only [hp]

end Cert.Kernel2Ideal.Inproj

end
-- ==== Proof.Inproj.Out.lean ====
module

public import proofs.«01_k».proof.Proof.Inproj.Block
public import proofs.«01_k».proof.Proof.Gen.Kernel2Ideal.Frame

/-! What the body of the input projection leaves in its five blocks. -/

@[expose] public section

set_option maxRecDepth 16384

noncomputable section

open Idealize.ShloMosaic Idealize.ShloMosaic.TcCoe Idealize.SL.Sem

namespace Cert.Kernel2Ideal.Inproj

open Cert.Kernel2Ideal.Gen Cert.Inproj

/-- Column `j` of the projection of row `r` of a block. -/
def col (X0 : Vec Ideal S1x256x1024 .f32) (X1 : Vec Ideal S1x1024 .f32) (X2 X3 : Vec Ideal S1x1x1024 .f32)
    (X4 : Vec Ideal S1024x5376 .bf16) (r : Fin 256) (j : Fin 5376) : EReal :=
  ∑ k : Fin 1024, hid (fun k => X0 (ix3 0 r k)) (fun k => X1 (ix2 0 k)) (fun k => X2 (ix3 0 0 k)) (fun k => X3 (ix3 0 0 k)) k * X4 (ix2 k j)

/-- A load of some of the weight's columns. -/
theorem ld_cols (X : Vec Ideal S1024x5376 .bf16) (n o : ℕ) (hn : o + n ≤ 5376) (inb) (k : Fin 1024) (l : Fin n) :
    View.ld X (Rect.unit (s := S1024x5376) ![0, o] ![1024, n] inb) (ix2 k l) = X (ix2 k ⟨o + l.val, by omega⟩) := by
  refine View.ld_unit_apply_of X ![0, o] ![1024, n] inb (ix2 k l) _ ?_
  intro a
  fin_cases a
  · exact (Nat.zero_add _).symm
  · rfl

variable (X0 : Vec Ideal S1x256x1024 .f32) (X1 : Vec Ideal S1x1024 .f32) (X2 X3 : Vec Ideal S1x1x1024 .f32)
  (X4 : Vec Ideal S1024x5376 .bf16) (X5 X6 : Vec Ideal S1x512 .f32) (X7 : Vec Ideal S128x128 .bf16)

/-- The attention's columns. -/
theorem att_cols (r : Fin 256) (l : Fin 1536) :
    k0_pay6 (k0_pay4 X0 X1 X2 X3) (View.ld X4 r0_5) (ix2 r l) = col X0 X1 X2 X3 X4 r ⟨1792 + l.val, by omega⟩ := by
  rw [att_apply]
  refine Finset.sum_congr rfl fun k _ => congrArg₂ (· * ·) (hid_apply X0 X1 X2 X3 r k) (ld_cols X4 1536 1792 (by omega) _ k l)

theorem out8_apply (r : Fin 256) (l : Fin 1792) :
    out0_8 X0 X1 X2 X3 X4 X5 X6 X7 (ix3 0 r l) = col X0 X1 X2 X3 X4 r ⟨l.val, by omega⟩ := by
  unfold_out out0_8
  frame_out
  rw [rwkv_apply]
  refine Finset.sum_congr rfl fun k _ => congrArg₂ (· * ·) (hid_apply X0 X1 X2 X3 r k) ((ld_cols X4 1792 0 (by omega) _ k l).trans ?_)
  exact congrArg (fun j => X4 (ix2 k j)) (Fin.ext (Nat.zero_add _))

theorem out9_apply (ho : ∀ a b : Fin 128, X7 (ix2 a b) = if a.val / 64 = b.val / 64 then 1 else 0) (r : Fin 256) (l : Fin 512) :
    out0_9 X0 X1 X2 X3 X4 X5 X6 X7 (ix3 0 r l) = col X0 X1 X2 X3 X4 r ⟨1792 + l.val, by omega⟩
      * invRoot (fun d => col X0 X1 X2 X3 X4 r ⟨1792 + (64 * (l.val / 64) + d.val), by omega⟩) * X5 (ix2 0 l) := by
  unfold_out out0_9
  frame_out
  rw [q_apply _ _ _ _ ho]
  refine congrArg₂ (· * ·) (congrArg₂ (· * ·) (att_cols X0 X1 X2 X3 X4 r _) (congrArg invRoot (funext fun d => att_cols X0 X1 X2 X3 X4 r _))) rfl

theorem out10_apply (ho : ∀ a b : Fin 128, X7 (ix2 a b) = if a.val / 64 = b.val / 64 then 1 else 0) (r : Fin 256) (l : Fin 512) :
    out0_10 X0 X1 X2 X3 X4 X5 X6 X7 (ix3 0 r l) = col X0 X1 X2 X3 X4 r ⟨1792 + (512 + l.val), by omega⟩
      * invRoot (fun d => col X0 X1 X2 X3 X4 r ⟨1792 + (512 + (64 * (l.val / 64) + d.val)), by omega⟩) * X6 (ix2 0 l) := by
  unfold_out out0_10
  frame_out
  rw [k_apply _ _ _ ho]
  refine congrArg₂ (· * ·) (congrArg₂ (· * ·) (att_cols X0 X1 X2 X3 X4 r _) (congrArg invRoot (funext fun d => att_cols X0 X1 X2 X3 X4 r _))) rfl

theorem out11_apply (r : Fin 256) (l : Fin 512) :
    out0_11 X0 X1 X2 X3 X4 X5 X6 X7 (ix3 0 r l) = col X0 X1 X2 X3 X4 r ⟨1792 + (1024 + l.val), by omega⟩ := by
  unfold_out out0_11
  frame_out
  rw [v_apply]
  exact att_cols X0 X1 X2 X3 X4 r _

theorem out12_apply (r : Fin 256) (l : Fin 2048) :
    out0_12 X0 X1 X2 X3 X4 X5 X6 X7 (ix3 0 r l) = Ideal.logistic (col X0 X1 X2 X3 X4 r ⟨3328 + l.val, by omega⟩) := by
  unfold_out out0_12
  frame_out
  rw [gate_apply]
  refine congrArg Ideal.logistic (Finset.sum_congr rfl fun k _ => congrArg₂ (· * ·) (hid_apply X0 X1 X2 X3 r k) (ld_cols X4 2048 3328 (by omega) _ k l))

end Cert.Kernel2Ideal.Inproj

end
-- ==== Proof.Inproj.Array.lean ====
module

public import proofs.«01_k».proof.Proof.Inproj.Prep
public import proofs.«01_k».proof.Proof.Inproj.Out
public import proofs.«01_k».proof.Proof.Gen.Kernel2Ideal.Value

/-! The five arrays that the input projection leaves, from the arguments. -/

@[expose] public section

set_option maxRecDepth 16384

noncomputable section

open Idealize.ShloMosaic Idealize.ShloMosaic.TcCoe Idealize.SL.Sem

namespace Cert.Kernel2Ideal.Inproj

open Cert.Kernel2Ideal.Gen Cert.Inproj

/-- There are 128 grid points: eight for each sequence. -/
theorem t_lt (t : Fin cfg0.N) : t.val < 128 := t.isLt

theorem idx0 (t : Fin cfg0.N) : (cfg0.win 0).index t = ![t.val / 8, t.val % 8, 0] := by
  revert t; decide +kernel
theorem idx8 (t : Fin cfg0.N) : (cfg0.win 8).index t = ![t.val / 8, t.val % 8, 0] := by
  revert t; decide +kernel
theorem idx9 (t : Fin cfg0.N) : (cfg0.win 9).index t = ![t.val / 8, t.val % 8, 0] := by
  revert t; decide +kernel
theorem idx10 (t : Fin cfg0.N) : (cfg0.win 10).index t = ![t.val / 8, t.val % 8, 0] := by
  revert t; decide +kernel
theorem idx11 (t : Fin cfg0.N) : (cfg0.win 11).index t = ![t.val / 8, t.val % 8, 0] := by
  revert t; decide +kernel
theorem idx12 (t : Fin cfg0.N) : (cfg0.win 12).index t = ![t.val / 8, t.val % 8, 0] := by
  revert t; decide +kernel
theorem idx2 (t : Fin cfg0.N) : (cfg0.win 2).index t = ![t.val / 8, 0, 0] := by
  revert t; decide +kernel
theorem idx3 (t : Fin cfg0.N) : (cfg0.win 3).index t = ![t.val / 8, 0, 0] := by
  revert t; decide +kernel
theorem idx1 (t : Fin cfg0.N) : (cfg0.win 1).index t = ![0, 0] := by
  revert t; decide +kernel
theorem idx4 (t : Fin cfg0.N) : (cfg0.win 4).index t = ![0, 0] := by
  revert t; decide +kernel
theorem idx5 (t : Fin cfg0.N) : (cfg0.win 5).index t = ![0, 0] := by
  revert t; decide +kernel
theorem idx6 (t : Fin cfg0.N) : (cfg0.win 6).index t = ![0, 0] := by
  revert t; decide +kernel
theorem idx7 (t : Fin cfg0.N) : (cfg0.win 7).index t = ![0, 0] := by
  revert t; decide +kernel

variable (m : (ℓ : Loc nD τ sig) → Buf (Elt Ideal) ℓ) (c : Dev nD)

/-- The sequence of a grid point. -/
abbrev seq (t : Fin cfg0.N) : Fin 16 := ⟨t.val / 8, by have := t_lt t; omega⟩

/-- The row in its sequence of a block's row. -/
abbrev row (t : Fin cfg0.N) (r : Fin 256) : Fin 2048 := ⟨256 * (t.val % 8) + r.val, by omega⟩

theorem x_read (t : Fin cfg0.N) (r : Fin 256) (k : Fin 1024) :
    iblk m c 0 t (ix3 0 r k) = m ((c : Thread nD τ).loc main_arg0) (ix3 (seq t) (row t r) k) := by
  blk_point [iblk, V_main_arg0, idx0 t]

theorem g_read (t : Fin cfg0.N) (k : Fin 1024) : iblk m c 1 t (ix2 0 k) = m ((c : Thread nD τ).loc main_arg1) (ix2 0 k) := by
  rw [← gain_read m c k]
  blk_point [iblk, idx1 t]

theorem sh_read (t : Fin cfg0.N) (k : Fin 1024) : iblk m c 2 t (ix3 0 0 k) = m ((c : Thread nD τ).loc main_arg2) (ix2 (seq t) k) := by
  rw [← shift_read m c (seq t) k]
  blk_point [iblk, idx2 t]

theorem sc_read (t : Fin cfg0.N) (k : Fin 1024) : iblk m c 3 t (ix3 0 0 k) = m ((c : Thread nD τ).loc main_arg3) (ix2 (seq t) k) := by
  rw [← scale_read m c (seq t) k]
  blk_point [iblk, idx3 t]

theorem w_read (t : Fin cfg0.N) (k : Fin 1024) (j : Fin 5376) : iblk m c 4 t (ix2 k j) = m ((c : Thread nD τ).loc main_arg4) (ix3 0 k j) := by
  rw [← weight_read m c k j]
  blk_point [iblk, idx4 t]

theorem gq_read (t : Fin cfg0.N) (l : Fin 512) : iblk m c 5 t (ix2 0 l)
    = HMul.hMul (α := EReal) (β := EReal) (γ := EReal) (m ((c : Thread nD τ).loc main_arg5) (ix2 0 ⟨l.val % 64, by omega⟩)) (Ideal.ofBits FTy.f32 0x3E000000#32) := by
  rw [← qgain_read]
  blk_point [iblk, idx5 t]

theorem gk_read (t : Fin cfg0.N) (l : Fin 512) : iblk m c 6 t (ix2 0 l)
    = HMul.hMul (α := EReal) (β := EReal) (γ := EReal) (m ((c : Thread nD τ).loc main_arg6) (ix2 0 ⟨l.val % 64, by omega⟩)) (Ideal.ofBits FTy.f32 0x3F800000#32) := by
  rw [← kgain_read]
  blk_point [iblk, idx6 t]

theorem o_read (t : Fin cfg0.N) (a b : Fin 128) : iblk m c 7 t (ix2 a b) = (if a.val / 64 = b.val / 64 then (1 : EReal) else 0 : EReal) := by
  rw [← table_read m c]
  blk_point [iblk, idx7 t]

/-- The projection of the arguments. -/
abbrev colM (b : Fin 16) (i : Fin 2048) (j : Fin 5376) : EReal :=
  proj (fun b i k => m ((c : Thread nD τ).loc main_arg0) (ix3 b i k)) (fun k => m ((c : Thread nD τ).loc main_arg1) (ix2 0 k))
    (fun b k => m ((c : Thread nD τ).loc main_arg2) (ix2 b k)) (fun b k => m ((c : Thread nD τ).loc main_arg3) (ix2 b k))
    (fun k j => m ((c : Thread nD τ).loc main_arg4) (ix3 0 k j)) b i j

theorem col_read (t : Fin cfg0.N) (r : Fin 256) (j : Fin 5376) :
    col (iblk m c 0 t) (iblk m c 1 t) (iblk m c 2 t) (iblk m c 3 t) (iblk m c 4 t) r j = colM m c (seq t) (row t r) j := by
  unfold col
  refine Finset.sum_congr rfl fun k _ => congrArg₂ (· * ·) ?_ (w_read m c t k j)
  simp only [x_read, g_read, sh_read, sc_read]

/-- Where a grid point's block of result 0 lies. -/
theorem place8 (t : Fin cfg0.N) (r : Fin 256) (l : Fin 1792) :
    (win0_8.blk t).view.emb (ix3 0 r l) = (ix3 (seq t) (row t r) l : S16x2048x1792.Idx) := by
  have e := idx8 t
  have h0 : ((win0_8.blk t).view.emb (ix3 0 r l) 0).val = t.val / 8 := by blk_simp [e]; exact Nat.add_zero _
  have h1 : ((win0_8.blk t).view.emb (ix3 0 r l) 1).val = 256 * (t.val % 8) + r.val := by blk_simp [e]; omega
  have h2 : ((win0_8.blk t).view.emb (ix3 0 r l) 2).val = l.val := by blk_simp [e]
  funext a
  fin_cases a
  · exact Fin.ext h0
  · exact Fin.ext h1
  · exact Fin.ext h2

def rwkv (b : Fin 16) (i : Fin 2048) (l : Fin 1792) : EReal :=
  colM m c b i ⟨l.val, by omega⟩

theorem array8 : (dats m 0 c).arrAt 8 cfg0.N = (fun i => rwkv m c (i 0) (i 1) (i 2) : S16x2048x1792.Idx → EReal) := by
  refine (dats m 0 c).arrAt_eq_of_covers 8 _ (by decide +kernel) fun t hf y => ?_
  blk_simp
  rw [after0_8]
  obtain ⟨r, l, rfl⟩ : ∃ (r : Fin 256) (l : Fin 1792), y = (ix3 0 r l : S1x256x1792.Idx) := ⟨y 1, y 2, by
    funext k; fin_cases k
    · exact Fin.ext (by have : (y 0).val < 1 := (y 0).isLt; show (y 0).val = 0; omega)
    · rfl
    · rfl⟩
  rw [out8_apply, place8, col_read]
  rfl

/-- Where a grid point's block of result 1 lies. -/
theorem place9 (t : Fin cfg0.N) (r : Fin 256) (l : Fin 512) :
    (win0_9.blk t).view.emb (ix3 0 r l) = (ix3 (seq t) (row t r) l : S16x2048x512.Idx) := by
  have e := idx9 t
  have h0 : ((win0_9.blk t).view.emb (ix3 0 r l) 0).val = t.val / 8 := by blk_simp [e]; exact Nat.add_zero _
  have h1 : ((win0_9.blk t).view.emb (ix3 0 r l) 1).val = 256 * (t.val % 8) + r.val := by blk_simp [e]; omega
  have h2 : ((win0_9.blk t).view.emb (ix3 0 r l) 2).val = l.val := by blk_simp [e]
  funext a
  fin_cases a
  · exact Fin.ext h0
  · exact Fin.ext h1
  · exact Fin.ext h2

def qs (b : Fin 16) (i : Fin 2048) (l : Fin 512) : EReal :=
  query (fun b i k => m ((c : Thread nD τ).loc main_arg0) (ix3 b i k)) (fun k => m ((c : Thread nD τ).loc main_arg1) (ix2 0 k))
      (fun b k => m ((c : Thread nD τ).loc main_arg2) (ix2 b k)) (fun b k => m ((c : Thread nD τ).loc main_arg3) (ix2 b k))
      (fun k j => m ((c : Thread nD τ).loc main_arg4) (ix3 0 k j)) (fun d => m ((c : Thread nD τ).loc main_arg5) (ix2 0 d)) b i l

theorem array9 : (dats m 0 c).arrAt 9 cfg0.N = (fun i => qs m c (i 0) (i 1) (i 2) : S16x2048x512.Idx → EReal) := by
  refine (dats m 0 c).arrAt_eq_of_covers 9 _ (by decide +kernel) fun t hf y => ?_
  blk_simp
  rw [after0_9]
  obtain ⟨r, l, rfl⟩ : ∃ (r : Fin 256) (l : Fin 512), y = (ix3 0 r l : S1x256x512.Idx) := ⟨y 1, y 2, by
    funext k; fin_cases k
    · exact Fin.ext (by have : (y 0).val < 1 := (y 0).isLt; show (y 0).val = 0; omega)
    · rfl
    · rfl⟩
  rw [out9_apply _ _ _ _ _ _ _ _ (o_read m c t), place9, gq_read]
  simp only [col_read]
  rfl

/-- Where a grid point's block of result 2 lies. -/
theorem place10 (t : Fin cfg0.N) (r : Fin 256) (l : Fin 512) :
    (win0_10.blk t).view.emb (ix3 0 r l) = (ix3 (seq t) (row t r) l : S16x2048x512.Idx) := by
  have e := idx10 t
  have h0 : ((win0_10.blk t).view.emb (ix3 0 r l) 0).val = t.val / 8 := by blk_simp [e]; exact Nat.add_zero _
  have h1 : ((win0_10.blk t).view.emb (ix3 0 r l) 1).val = 256 * (t.val % 8) + r.val := by blk_simp [e]; omega
  have h2 : ((win0_10.blk t).view.emb (ix3 0 r l) 2).val = l.val := by blk_simp [e]
  funext a
  fin_cases a
  · exact Fin.ext h0
  · exact Fin.ext h1
  · exact Fin.ext h2

def ks (b : Fin 16) (i : Fin 2048) (l : Fin 512) : EReal :=
  key (fun b i k => m ((c : Thread nD τ).loc main_arg0) (ix3 b i k)) (fun k => m ((c : Thread nD τ).loc main_arg1) (ix2 0 k))
      (fun b k => m ((c : Thread nD τ).loc main_arg2) (ix2 b k)) (fun b k => m ((c : Thread nD τ).loc main_arg3) (ix2 b k))
      (fun k j => m ((c : Thread nD τ).loc main_arg4) (ix3 0 k j)) (fun d => m ((c : Thread nD τ).loc main_arg6) (ix2 0 d)) b i l

theorem array10 : (dats m 0 c).arrAt 10 cfg0.N = (fun i => ks m c (i 0) (i 1) (i 2) : S16x2048x512.Idx → EReal) := by
  refine (dats m 0 c).arrAt_eq_of_covers 10 _ (by decide +kernel) fun t hf y => ?_
  blk_simp
  rw [after0_10]
  obtain ⟨r, l, rfl⟩ : ∃ (r : Fin 256) (l : Fin 512), y = (ix3 0 r l : S1x256x512.Idx) := ⟨y 1, y 2, by
    funext k; fin_cases k
    · exact Fin.ext (by have : (y 0).val < 1 := (y 0).isLt; show (y 0).val = 0; omega)
    · rfl
    · rfl⟩
  rw [out10_apply _ _ _ _ _ _ _ _ (o_read m c t), place10, gk_read]
  simp only [col_read, one_bits, mul_one]
  rfl

/-- Where a grid point's block of result 3 lies. -/
theorem place11 (t : Fin cfg0.N) (r : Fin 256) (l : Fin 512) :
    (win0_11.blk t).view.emb (ix3 0 r l) = (ix3 (seq t) (row t r) l : S16x2048x512.Idx) := by
  have e := idx11 t
  have h0 : ((win0_11.blk t).view.emb (ix3 0 r l) 0).val = t.val / 8 := by blk_simp [e]; exact Nat.add_zero _
  have h1 : ((win0_11.blk t).view.emb (ix3 0 r l) 1).val = 256 * (t.val % 8) + r.val := by blk_simp [e]; omega
  have h2 : ((win0_11.blk t).view.emb (ix3 0 r l) 2).val = l.val := by blk_simp [e]
  funext a
  fin_cases a
  · exact Fin.ext h0
  · exact Fin.ext h1
  · exact Fin.ext h2

def vs (b : Fin 16) (i : Fin 2048) (l : Fin 512) : EReal :=
  colM m c b i ⟨1792 + (1024 + l.val), by omega⟩

theorem array11 : (dats m 0 c).arrAt 11 cfg0.N = (fun i => vs m c (i 0) (i 1) (i 2) : S16x2048x512.Idx → EReal) := by
  refine (dats m 0 c).arrAt_eq_of_covers 11 _ (by decide +kernel) fun t hf y => ?_
  blk_simp
  rw [after0_11]
  obtain ⟨r, l, rfl⟩ : ∃ (r : Fin 256) (l : Fin 512), y = (ix3 0 r l : S1x256x512.Idx) := ⟨y 1, y 2, by
    funext k; fin_cases k
    · exact Fin.ext (by have : (y 0).val < 1 := (y 0).isLt; show (y 0).val = 0; omega)
    · rfl
    · rfl⟩
  rw [out11_apply, place11, col_read]
  rfl

/-- Where a grid point's block of result 4 lies. -/
theorem place12 (t : Fin cfg0.N) (r : Fin 256) (l : Fin 2048) :
    (win0_12.blk t).view.emb (ix3 0 r l) = (ix3 (seq t) (row t r) l : S16x2048x2048.Idx) := by
  have e := idx12 t
  have h0 : ((win0_12.blk t).view.emb (ix3 0 r l) 0).val = t.val / 8 := by blk_simp [e]; exact Nat.add_zero _
  have h1 : ((win0_12.blk t).view.emb (ix3 0 r l) 1).val = 256 * (t.val % 8) + r.val := by blk_simp [e]; omega
  have h2 : ((win0_12.blk t).view.emb (ix3 0 r l) 2).val = l.val := by blk_simp [e]
  funext a
  fin_cases a
  · exact Fin.ext h0
  · exact Fin.ext h1
  · exact Fin.ext h2

def gates (b : Fin 16) (i : Fin 2048) (l : Fin 2048) : EReal :=
  Ideal.logistic (colM m c b i ⟨3328 + l.val, by omega⟩)

theorem array12 : (dats m 0 c).arrAt 12 cfg0.N = (fun i => gates m c (i 0) (i 1) (i 2) : S16x2048x2048.Idx → EReal) := by
  refine (dats m 0 c).arrAt_eq_of_covers 12 _ (by decide +kernel) fun t hf y => ?_
  blk_simp
  rw [after0_12]
  obtain ⟨r, l, rfl⟩ : ∃ (r : Fin 256) (l : Fin 2048), y = (ix3 0 r l : S1x256x2048.Idx) := ⟨y 1, y 2, by
    funext k; fin_cases k
    · exact Fin.ext (by have : (y 0).val < 1 := (y 0).isLt; show (y 0).val = 0; omega)
    · rfl
    · rfl⟩
  rw [out12_apply, place12, col_read]
  rfl

end Cert.Kernel2Ideal.Inproj

end
-- ==== Proof.Inproj.Ref.lean ====
module

public import proofs.«01_k».proof.Proof.Inproj.Eq
public import proofs.«01_k».proof.Proof.Gen.Reference2Ideal.Read

/-! The reference's projection and its parts. -/

@[expose] public section

set_option maxRecDepth 16384

noncomputable section

open Idealize.ShloMosaic Idealize.ShloMosaic.TcCoe Idealize.SL.Sem

namespace Cert.Reference2Ideal.Inproj

open Cert.Reference2Ideal Cert.Reference2Ideal.Gen Cert.Reference2Ideal.Read Cert.Inproj

variable (X : S16x2048x1024.Idx → EReal) (g : S1x1024.Idx → EReal) (sh sc : S16x1024.Idx → EReal) (W : S1x1024x5376.Idx → EReal)
  (gq gk : S1x64.Idx → EReal)

theorem hid_ref (b : Fin 16) (i : Fin 2048) (k : Fin 1024) :
    val_main_v21 (F := Ideal) X g sh sc (ix3 b i k)
      = hid (fun k => X (ix3 b i k)) (fun k => g (ix2 0 k)) (fun k => sh (ix2 b k)) (fun k => sc (ix2 b k)) k := by
  unfold val_main_v21 val_main_v20 val_main_v19 val_main_v18 val_main_v17 val_main_v16 val_main_v15 val_main_cst_2 val_main_v14 val_main_v13
    val_main_v12 val_main_v11 val_main_v10 val_main_v9 val_main_v8 val_main_v7 val_main_v6 val_main_cst_1 val_main_v5 val_main_v4 val_main_cst_0
    val_main_v3 val_main_v2 val_main_cst val_main_v1 val_main_v0 hid
  pointwise

/-- The projection. -/
abbrev col (b : Fin 16) (i : Fin 2048) (j : Fin 5376) : EReal :=
  proj (fun b i k => X (ix3 b i k)) (fun k => g (ix2 0 k)) (fun b k => sh (ix2 b k)) (fun b k => sc (ix2 b k)) (fun k j => W (ix3 0 k j)) b i j

theorem proj_ref (b : Fin 16) (i : Fin 2048) (j : Fin 5376) :
    val_main_v23 (F := Ideal) X g sh sc W (ix3 b i j) = col X g sh sc W b i j := by
  unfold val_main_v23 val_main_v22
  pointwise
  exact Finset.sum_congr rfl fun k _ => congrArg₂ (· * ·) (hid_ref X g sh sc b i k) rfl

theorem rwkv_ref (b : Fin 16) (i : Fin 2048) (l : Fin 1792) :
    val_main_v24 (F := Ideal) X g sh sc W (ix3 b i l) = col X g sh sc W b i ⟨l.val, by omega⟩ := by
  rw [← proj_ref]
  unfold val_main_v24
  pointwise

theorem gate_ref (b : Fin 16) (i : Fin 2048) (l : Fin 2048) :
    val_main_v80 (F := Ideal) X g sh sc W (ix3 b i l) = Ideal.logistic (col X g sh sc W b i ⟨3328 + l.val, by omega⟩) := by
  rw [← proj_ref]
  unfold val_main_v80 val_main_v79 val_main_cst_11 val_main_v78 val_main_v77 val_main_cst_10 val_main_v76 val_main_v75 val_main_v26 Ideal.logistic
  pointwise

theorem q_heads (b : Fin 16) (h : Fin 8) (i : Fin 2048) (d : Fin 64) :
    val_main_v29 (F := Ideal) X g sh sc W (ix4 b h i d) = col X g sh sc W b i ⟨1792 + (64 * h.val + d.val), by omega⟩ := by
  rw [← proj_ref]
  unfold val_main_v29 val_main_v28 val_main_v27 val_main_v25
  pointwise
  exact congrArg (fun j => val_main_v23 (F := Ideal) X g sh sc W (ix3 b i j)) (Fin.ext (by dsimp only; omega))

theorem k_heads (b : Fin 16) (h : Fin 8) (i : Fin 2048) (d : Fin 64) :
    val_main_v32 (F := Ideal) X g sh sc W (ix4 b h i d) = col X g sh sc W b i ⟨1792 + (512 + (64 * h.val + d.val)), by omega⟩ := by
  rw [← proj_ref]
  unfold val_main_v32 val_main_v31 val_main_v30 val_main_v25
  pointwise
  exact congrArg (fun j => val_main_v23 (F := Ideal) X g sh sc W (ix3 b i j)) (Fin.ext (by dsimp only; omega))

theorem v_ref (b : Fin 16) (i : Fin 2048) (l : Fin 512) :
    val_main_v74 (F := Ideal) X g sh sc W (ix3 b i l) = col X g sh sc W b i ⟨1792 + (1024 + l.val), by omega⟩ := by
  rw [← proj_ref]
  unfold val_main_v74 val_main_v73 val_main_v72 val_main_v35 val_main_v34 val_main_v33 val_main_v25
  pointwise

theorem q_normed (b : Fin 16) (h : Fin 8) (i : Fin 2048) (d : Fin 64) :
    val_main_v51 (F := Ideal) X g sh sc W gq (ix4 b h i d) = col X g sh sc W b i ⟨1792 + (64 * h.val + d.val), by omega⟩
      * invRoot (fun d => col X g sh sc W b i ⟨1792 + (64 * h.val + d.val), by omega⟩) * gq (ix2 0 d) * Ideal.ofBits FTy.f32 0x3E000000#32 := by
  simp only [← q_heads]
  unfold val_main_v51 val_main_v50 val_main_cst_6 val_main_v49 val_main_v48 val_main_v47 val_main_v46 val_main_v45 val_main_v44 val_main_v43
    val_main_v42 val_main_cst_5 val_main_v41 val_main_v40 val_main_cst_4 val_main_v39 val_main_v38 val_main_cst_3 val_main_v37 val_main_v36 invRoot
  pointwise

theorem k_normed (b : Fin 16) (h : Fin 8) (i : Fin 2048) (d : Fin 64) :
    val_main_v65 (F := Ideal) X g sh sc W gk (ix4 b h i d) = col X g sh sc W b i ⟨1792 + (512 + (64 * h.val + d.val)), by omega⟩
      * invRoot (fun d => col X g sh sc W b i ⟨1792 + (512 + (64 * h.val + d.val)), by omega⟩) * gk (ix2 0 d) := by
  simp only [← k_heads]
  unfold val_main_v65 val_main_v64 val_main_v63 val_main_v62 val_main_v61 val_main_v60 val_main_v59 val_main_v58 val_main_cst_9 val_main_v57
    val_main_v56 val_main_cst_8 val_main_v55 val_main_v54 val_main_cst_7 val_main_v53 val_main_v52 invRoot
  pointwise

theorem q_ref (b : Fin 16) (i : Fin 2048) (l : Fin 512) :
    val_main_v68 (F := Ideal) X g sh sc W gq (ix3 b i l)
      = query (fun b i k => X (ix3 b i k)) (fun k => g (ix2 0 k)) (fun b k => sh (ix2 b k)) (fun b k => sc (ix2 b k)) (fun k j => W (ix3 0 k j))
        (fun d => gq (ix2 0 d)) b i l := by
  have e : val_main_v68 (F := Ideal) X g sh sc W gq (ix3 b i l)
      = val_main_v51 (F := Ideal) X g sh sc W gq (ix4 b ⟨l.val / 64, by omega⟩ i ⟨l.val % 64, by omega⟩) := by
    unfold val_main_v68 val_main_v67 val_main_v66
    pointwise
  rw [e, q_normed, mul_assoc]
  unfold query
  refine congrArg₂ (· * ·) (congrArg₂ (· * ·) ?_ rfl) rfl
  exact congrArg (col X g sh sc W b i) (Fin.ext (by dsimp only; omega))

theorem k_ref (b : Fin 16) (i : Fin 2048) (l : Fin 512) :
    val_main_v71 (F := Ideal) X g sh sc W gk (ix3 b i l)
      = key (fun b i k => X (ix3 b i k)) (fun k => g (ix2 0 k)) (fun b k => sh (ix2 b k)) (fun b k => sc (ix2 b k)) (fun k j => W (ix3 0 k j))
        (fun d => gk (ix2 0 d)) b i l := by
  have e : val_main_v71 (F := Ideal) X g sh sc W gk (ix3 b i l)
      = val_main_v65 (F := Ideal) X g sh sc W gk (ix4 b ⟨l.val / 64, by omega⟩ i ⟨l.val % 64, by omega⟩) := by
    unfold val_main_v71 val_main_v70 val_main_v69
    pointwise
  rw [e, k_normed]
  unfold key
  refine congrArg₂ (· * ·) (congrArg₂ (· * ·) ?_ rfl) rfl
  exact congrArg (col X g sh sc W b i) (Fin.ext (by dsimp only; omega))

end Cert.Reference2Ideal.Inproj

end
-- ==== Proof.Merge.Runs.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

/-! What the call `merge` finds when it starts, the blocks of its windows, and the condition of its body's one branch. The
host operations before it write none of the arguments. -/

@[expose] public section

set_option maxRecDepth 16384

noncomputable section

namespace Cert.Kernel3Ideal.Merge

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the call -/

/-- The buffers when the call starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments are as they were. -/
theorem V_arg (c : Dev nD) (b : Ref sig .tc)
    (hb : b ∈ [main_arg0, main_arg1, main_arg2, main_arg3, main_arg4, main_arg5, main_arg6, main_arg7, main_arg8, main_arg9, main_arg10, main_arg11, main_arg12, main_arg13, main_arg14]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-! ## The windows' blocks -/

/-- The block of a window at a grid point, in its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The arguments -/

/-- The arguments are as they were. -/
abbrev Kept (f : (ℓ : Loc nD τ sig) → Buf (Elt F) ℓ) (c : Dev nD) : Prop :=
  f ((c.tc : Thread nD τ).loc main_arg0) = m ((c.tc : Thread nD τ).loc main_arg0)
      ∧ f ((c.tc : Thread nD τ).loc main_arg1) = m ((c.tc : Thread nD τ).loc main_arg1)
      ∧ f ((c.tc : Thread nD τ).loc main_arg2) = m ((c.tc : Thread nD τ).loc main_arg2)
      ∧ f ((c.tc : Thread nD τ).loc main_arg3) = m ((c.tc : Thread nD τ).loc main_arg3)
      ∧ f ((c.tc : Thread nD τ).loc main_arg4) = m ((c.tc : Thread nD τ).loc main_arg4)
      ∧ f ((c.tc : Thread nD τ).loc main_arg5) = m ((c.tc : Thread nD τ).loc main_arg5)
      ∧ f ((c.tc : Thread nD τ).loc main_arg6) = m ((c.tc : Thread nD τ).loc main_arg6)
      ∧ f ((c.tc : Thread nD τ).loc main_arg7) = m ((c.tc : Thread nD τ).loc main_arg7)
      ∧ f ((c.tc : Thread nD τ).loc main_arg8) = m ((c.tc : Thread nD τ).loc main_arg8)
      ∧ f ((c.tc : Thread nD τ).loc main_arg9) = m ((c.tc : Thread nD τ).loc main_arg9)
      ∧ f ((c.tc : Thread nD τ).loc main_arg10) = m ((c.tc : Thread nD τ).loc main_arg10)
      ∧ f ((c.tc : Thread nD τ).loc main_arg11) = m ((c.tc : Thread nD τ).loc main_arg11)
      ∧ f ((c.tc : Thread nD τ).loc main_arg12) = m ((c.tc : Thread nD τ).loc main_arg12)
      ∧ f ((c.tc : Thread nD τ).loc main_arg13) = m ((c.tc : Thread nD τ).loc main_arg13)
      ∧ f ((c.tc : Thread nD τ).loc main_arg14) = m ((c.tc : Thread nD τ).loc main_arg14)

set_option maxHeartbeats 1080000 in
/-- Where every array of the call holds what its blocks make of it and every other buffer is as the call found it, the
    arguments are as they were. -/
theorem kept (dats : (p : Fin 1) → (c : Dev nD) → Dat τ (Elt F) Unit ℕ (UR sig nD τ) ℕ (cfgs p) c)
    (hA : ∀ c w, (dats 0 c).A w = V m c (Pipeline.arrRef spec0 w)) (r) (h : Pipeline.FramePost cfgs dats 0 (V m) r) (c : Dev nD) :
    Kept m r.2.mem c :=
  have arr (w : Fin 18) (hw) (hb) := ((h c).1 w).trans (((dats 0 c).arrAt_in w hw _).trans ((hA c w).trans (V_arg m c _ hb)))
  have rest (b : Ref sig .tc) (h₁) (h₂) (hb) := ((h c).2 b (Pipeline.mem_restRefs_of b h₁ h₂)).trans (V_arg m c b hb)
  ⟨arr 0 rfl (by decide), arr 1 rfl (by decide), arr 2 rfl (by decide), arr 3 rfl (by decide),
    rest main_arg4 (by decide) (by decide) (by decide),
    rest main_arg5 (by decide) (by decide) (by decide),
    rest main_arg6 (by decide) (by decide) (by decide),
    rest main_arg7 (by decide) (by decide) (by decide),
    rest main_arg8 (by decide) (by decide) (by decide),
    rest main_arg9 (by decide) (by decide) (by decide),
    rest main_arg10 (by decide) (by decide) (by decide),
    rest main_arg11 (by decide) (by decide) (by decide),
    rest main_arg12 (by decide) (by decide) (by decide),
    rest main_arg13 (by decide) (by decide) (by decide),
    rest main_arg14 (by decide) (by decide) (by decide)⟩

/-! ## The body's branch -/

/-- The condition of the body's branch at a grid point's coordinates: both are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 64 = 0)

/-! ## The windows' buffers -/

/-- A buffer of each output's window, through which its contents are read; any would do. -/
abbrev VO0_14 : View sig .tc .vmem S1x512x1024 .f32 := (Memref.whole cc0_stg14_0 : Memref sig .tc .vmem S1x512x1024 .f32).view
abbrev VO0_15 : View sig .tc .vmem S1x4096x128 .f32 := (Memref.whole cc0_stg15_0 : Memref sig .tc .vmem S1x4096x128 .f32).view
abbrev VO0_16 : View sig .tc .vmem S1x512x128 .f32 := (Memref.whole cc0_stg16_0 : Memref sig .tc .vmem S1x512x128 .f32).view
abbrev VO0_17 : View sig .tc .vmem S1x128 .f32 := (Memref.whole cc0_stg17_0 : Memref sig .tc .vmem S1x128 .f32).view
/-- Each window's buffer at a grid point. -/
abbrev ms0_0 (t : Fin cfg0.N) : Memref sig .tc .vmem S1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4096x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128 .f32 := win0_17.stage (cfg0.slots t 17)
abbrev hs0_17 (t : Fin cfg0.N) : (ms0_17 t).IsWhole := hstage0_17 ((cfg0.slots t 17).cast nbuf0_17)

end Cert.Kernel3Ideal.Merge

end
-- ==== Proof.Merge.RunA.lean ====
module

public import proofs.«01_k».proof.Proof.Merge.Runs

/-! The run of the body of `merge` at the first grid point, where it clears the running counts before it adds to them. -/

@[expose] public section

set_option maxRecDepth 16384

noncomputable section

namespace Cert.Kernel3Ideal.Merge

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.squeezeSlice true in
/-- The stores of that run into the four output blocks, last first, with the run: from buffers that hold the inputs `x0` to `x13`,
    and outputs that hold anything, the body leaves the inputs as they were and the outputs with those stores. -/
noncomputable def kernelRun0_A (c : Dev nD) (i : grid0.Coords)
    (arg2 : Memref sig .tc .vmem S1x512x512 .f32) (harg2 : arg2.IsWhole) (arg3 : Memref sig .tc .vmem S1x512x512 .f32) (harg3 : arg3.IsWhole)
    (arg4 : Memref sig .tc .vmem S1x512x2048 .f32) (harg4 : arg4.IsWhole) (arg5 : Memref sig .tc .vmem S1x512x1024 .f32) (harg5 : arg5.IsWhole)
    (arg6 : Memref sig .tc .vmem S1x1x1024 .f32) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1024 .f32) (harg9 : arg9.IsWhole)
    (arg10 : Memref sig .tc .vmem S512x1024 .bf16) (harg10 : arg10.IsWhole) (arg11 : Memref sig .tc .vmem S512x1024 .bf16) (harg11 : arg11.IsWhole)
    (arg12 : Memref sig .tc .vmem S1024x1024 .bf16) (harg12 : arg12.IsWhole) (arg13 : Memref sig .tc .vmem S1024x256 .bf16) (harg13 : arg13.IsWhole)
    (arg14 : Memref sig .tc .vmem S1x128 .f32) (harg14 : arg14.IsWhole) (arg15 : Memref sig .tc .vmem S512x512 .bf16) (harg15 : arg15.IsWhole)
    (arg16 : Memref sig .tc .vmem S1x512x1024 .f32) (harg16 : arg16.IsWhole) (arg17 : Memref sig .tc .vmem S1x4096x128 .f32) (harg17 : arg17.IsWhole)
    (arg18 : Memref sig .tc .vmem S1x512x128 .f32) (harg18 : arg18.IsWhole) (arg19 : Memref sig .tc .vmem S1x128 .f32) (harg19 : arg19.IsWhole) (hc0 : cond0_0 i)
    (x0 : Vec F S1x512x512 .f32) (x1 : Vec F S1x512x512 .f32) (x2 : Vec F S1x512x2048 .f32) (x3 : Vec F S1x512x1024 .f32) (x4 : Vec F S1x1x1024 .f32) (x5 : Vec F S1x1x1024 .f32) (x6 : Vec F S1x1x1024 .f32) (x7 : Vec F S1x1024 .f32) (x8 : Vec F S512x1024 .bf16) (x9 : Vec F S512x1024 .bf16) (x10 : Vec F S1024x1024 .bf16) (x11 : Vec F S1024x256 .bf16) (x12 : Vec F S1x128 .f32) (x13 : Vec F S512x512 .bf16) :
    Σ' (L14 : List (View.Piece (Elt F) S1x512x1024 .f32)), Σ' (L15 : List (View.Piece (Elt F) S1x4096x128 .f32)), Σ' (L16 : List (View.Piece (Elt F) S1x512x128 .f32)), { L17 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    iexists _; iexact H17

end Cert.Kernel3Ideal.Merge

end
-- ==== Proof.Merge.RunB.lean ====
module

public import proofs.«01_k».proof.Proof.Merge.RunA

/-! The run of the body of `merge` at the other grid points, where it adds to the running counts that the point before left. -/

@[expose] public section

set_option maxRecDepth 16384

noncomputable section

namespace Cert.Kernel3Ideal.Merge

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.squeezeSlice true in
/-- The stores of that run into the four output blocks, last first, with the run: from buffers that hold the inputs `x0` to `x13`
    and counts that are `xo17`, the body leaves the inputs as they were and the outputs with those stores. -/
noncomputable def kernelRun0_B (c : Dev nD) (i : grid0.Coords)
    (arg2 : Memref sig .tc .vmem S1x512x512 .f32) (harg2 : arg2.IsWhole) (arg3 : Memref sig .tc .vmem S1x512x512 .f32) (harg3 : arg3.IsWhole)
    (arg4 : Memref sig .tc .vmem S1x512x2048 .f32) (harg4 : arg4.IsWhole) (arg5 : Memref sig .tc .vmem S1x512x1024 .f32) (harg5 : arg5.IsWhole)
    (arg6 : Memref sig .tc .vmem S1x1x1024 .f32) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1024 .f32) (harg9 : arg9.IsWhole)
    (arg10 : Memref sig .tc .vmem S512x1024 .bf16) (harg10 : arg10.IsWhole) (arg11 : Memref sig .tc .vmem S512x1024 .bf16) (harg11 : arg11.IsWhole)
    (arg12 : Memref sig .tc .vmem S1024x1024 .bf16) (harg12 : arg12.IsWhole) (arg13 : Memref sig .tc .vmem S1024x256 .bf16) (harg13 : arg13.IsWhole)
    (arg14 : Memref sig .tc .vmem S1x128 .f32) (harg14 : arg14.IsWhole) (arg15 : Memref sig .tc .vmem S512x512 .bf16) (harg15 : arg15.IsWhole)
    (arg16 : Memref sig .tc .vmem S1x512x1024 .f32) (harg16 : arg16.IsWhole) (arg17 : Memref sig .tc .vmem S1x4096x128 .f32) (harg17 : arg17.IsWhole)
    (arg18 : Memref sig .tc .vmem S1x512x128 .f32) (harg18 : arg18.IsWhole) (arg19 : Memref sig .tc .vmem S1x128 .f32) (harg19 : arg19.IsWhole) (hc0 : ¬cond0_0 i)
    (x0 : Vec F S1x512x512 .f32) (x1 : Vec F S1x512x512 .f32) (x2 : Vec F S1x512x2048 .f32) (x3 : Vec F S1x512x1024 .f32) (x4 : Vec F S1x1x1024 .f32) (x5 : Vec F S1x1x1024 .f32) (x6 : Vec F S1x1x1024 .f32) (x7 : Vec F S1x1024 .f32) (x8 : Vec F S512x1024 .bf16) (x9 : Vec F S512x1024 .bf16) (x10 : Vec F S1024x1024 .bf16) (x11 : Vec F S1024x256 .bf16) (x12 : Vec F S1x128 .f32) (x13 : Vec F S512x512 .bf16) (xo17 : Vec F S1x128 .f32) :
    Σ' (L14 : List (View.Piece (Elt F) S1x512x1024 .f32)), Σ' (L15 : List (View.Piece (Elt F) S1x4096x128 .f32)), Σ' (L16 : List (View.Piece (Elt F) S1x512x128 .f32)), { L17 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg19.eq_unread hf17
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    iexists _; iexact H17

end Cert.Kernel3Ideal.Merge

end
-- ==== Proof.Merge.Rows.lean ====
/- The normalised activations of `merge` go into their block in eight stores: store `j` takes the rows `8 r + j`, eight
   apart. Here: eight such stores, the last first, reach every row of the block. -/
module

public import Idealize.ShloMosaic.Lib.Pipeline.FrameBody
public import Idealize.ShloMosaic.Lib.Writes

@[expose] public section

noncomputable section

namespace Cert.Merge

open Idealize.ShloMosaic

/-- The block that the eight stores fill. -/
abbrev Rows : Shape := ⟨3, ![1, 4096, 128]⟩

/-- `r` holds the rows `8 k + j` of the block. -/
def Eighth (r : Rect Rows) (j : ℕ) : Prop :=
  (∀ a, r.off a = ![0, j, 0] a) ∧ (∀ a, r.stride a = ![1, 8, 1] a) ∧ ∀ a, r.size a = ![1, 512, 128] a

theorem Eighth.mem {r : Rect Rows} {j : ℕ} (h : Eighth r j) (y : Rows.Idx) (hy : (y 1).val % 8 = j) : y ∈ r.set := by
  obtain ⟨ho, hs, hz⟩ := h
  have h0 : (y 0).val < 1 := (y 0).isLt
  have h1 : (y 1).val < 4096 := (y 1).isLt
  have h2 : (y 2).val < 128 := (y 2).isLt
  refine r.mem_set.mpr fun a => ?_
  rw [ho, hs, hz]
  fin_cases a
  · exact ⟨0, Nat.one_pos, by show (y 0).val = 0 + 1 * 0; omega⟩
  · exact ⟨(y 1).val / 8, by show _ < 512; omega, by show (y 1).val = j + 8 * _; omega⟩
  · exact ⟨(y 2).val, h2, by show (y 2).val = 0 + 1 * _; omega⟩

theorem Eighth.not_mem {r : Rect Rows} {j : ℕ} (h : Eighth r j) (hj : j < 8) (y : Rows.Idx) (hy : (y 1).val % 8 ≠ j) : y ∉ r.set := fun hm => by
  obtain ⟨ho, hs, hz⟩ := h
  obtain ⟨k, hk, e⟩ := r.mem_set.mp hm 1
  rw [ho, hs] at e
  have e' : (y 1).val = j + 8 * k := e
  omega

/-- Eight stores, one for every remainder, reach every row. -/
theorem cover_rows {Val : EltTy → Type} {e : EltTy} (L : List (View.Piece Val Rows e)) (hn : L.length = 8)
    (h : ∀ k : Fin 8, Eighth (L[k.val]'(by omega)).1 (7 - k.val)) (y : Rows.Idx) : ∃ pc ∈ L, y ∈ pc.1.set := by
  have hk : 7 - (y 1).val % 8 < 8 := by omega
  exact ⟨_, List.getElem_mem (l := L) (n := 7 - (y 1).val % 8) (by omega), (h ⟨7 - (y 1).val % 8, hk⟩).mem y (by show _ = 7 - (7 - (y 1).val % 8); omega)⟩

end Cert.Merge

end
-- ==== Proof.Merge.Frame.lean ====
module

public import proofs.«01_k».proof.Proof.Merge.RunB
public import proofs.«01_k».proof.Proof.Merge.Rows
public import Idealize.ShloMosaic.Lib.Claim

/-! The run of the call `merge`, for any floats. At the first grid point the body clears the running counts (window 17)
before it adds to them, at the other points it adds to what the point before left. What either run stores covers its
output blocks, so the call leaves in its arrays what the blocks make of them, and its arguments as they were. -/

@[expose] public section

set_option maxRecDepth 16384

noncomputable section

namespace Cert.Kernel3Ideal.Merge

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs, at a grid point -/

/-- The stores of a run of the body into its four output blocks, last first, with a fact about them. -/
abbrev Stores (P : List (View.Piece (Elt F) S1x512x1024 .f32) → List (View.Piece (Elt F) S1x4096x128 .f32) →
    List (View.Piece (Elt F) S1x512x128 .f32) → List (View.Piece (Elt F) S1x128 .f32) → Prop) :=
  Σ' L14, Σ' L15, Σ' L16, { L17 // P L14 L15 L16 L17 }

/-- The four output blocks. -/
abbrev Outs (F : FTy → Type) := Vec F S1x512x1024 .f32 × Vec F S1x4096x128 .f32 × Vec F S1x512x128 .f32 × Vec F S1x128 .f32

/-- What the stores leave in the output blocks. -/
def outs {P} (R : Stores (F := F) P) : Outs F :=
  (VO0_14.read (Elt F) (VO0_14.writes (Elt F) VO0_14.junk R.1), VO0_15.read (Elt F) (VO0_15.writes (Elt F) VO0_15.junk R.2.1),
    VO0_16.read (Elt F) (VO0_16.writes (Elt F) VO0_16.junk R.2.2.1), VO0_17.read (Elt F) (VO0_17.writes (Elt F) VO0_17.junk R.2.2.2.1))

/-- The stores write all of each output block. -/
def Covers {P} (R : Stores (F := F) P) : Prop :=
  (∀ y, ∃ pc ∈ R.1, y ∈ pc.1.set) ∧ (∀ y, ∃ pc ∈ R.2.1, y ∈ pc.1.set) ∧ (∀ y, ∃ pc ∈ R.2.2.1, y ∈ pc.1.set) ∧ ∀ y, ∃ pc ∈ R.2.2.2.1, y ∈ pc.1.set

/-- The body's run at the first point. -/
abbrev runA (c : Dev nD) (t : Fin cfg0.N) (h : t.val % 64 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The body's run at another point, where window 17 holds `x`. -/
abbrev runB (c : Dev nD) (t : Fin cfg0.N) (h : ¬t.val % 64 = 0) (x : Vec F S1x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x

theorem covers (c : Dev nD) (t : Fin cfg0.N) :
    (∀ h, Covers (runA m c t h)) ∧ ∀ h x, Covers (runB m c t h x) := by
  constructor <;> intros <;>
    exact ⟨View.cover_of_tiledL _ S1x512x1024.size (by sl_kernel_rfl),
      fun y => Cert.Merge.cover_rows _ rfl (fun k => by
        fin_cases k <;> exact ⟨fun a => by fin_cases a <;> rfl, fun a => by fin_cases a <;> rfl, fun a => by fin_cases a <;> rfl⟩) y,
      View.cover_of_tiledL _ S1x512x128.size (by sl_kernel_rfl), View.cover_of_tiledL _ S1x128.size (by sl_kernel_rfl)⟩

/-- What the output blocks hold after the point `n`. -/
def outsAt0 (c : Dev nD) : (n : ℕ) → n < cfg0.N → Outs F
  | 0, hn => outs (runA m c ⟨0, hn⟩ (Nat.zero_mod _))
  | n + 1, hn =>
    if h0 : (n + 1) % 64 = 0 then outs (runA m c ⟨n + 1, hn⟩ h0)
    else outs (runB m c ⟨n + 1, hn⟩ h0 (outsAt0 c n (Nat.lt_of_succ_lt hn)).2.2.2)

theorem outsAt0_A (c : Dev nD) (t : Fin cfg0.N) (h0 : t.val % 64 = 0) : outsAt0 m c t.val t.isLt = outs (runA m c t h0) := by
  obtain ⟨n, hn⟩ := t
  cases n with
  | zero => exact rfl
  | succ n => exact (dif_pos h0).trans rfl

theorem outsAt0_B (c : Dev nD) (t : Fin cfg0.N) (h0 : ¬t.val % 64 = 0) : outsAt0 m c t.val t.isLt
      = outs (runB m c t h0 (outsAt0 m c (t.val - 1) (Nat.lt_of_le_of_lt (Nat.sub_le _ _) t.isLt)).2.2.2) := by
  obtain ⟨n, hn⟩ := t
  cases n with
  | zero => exact absurd (Nat.zero_mod _) h0
  | succ n => exact (dif_neg h0).trans rfl

/-! ## The call's data -/

/-- The arrays as the call finds them; after a point, each input's buffer with its block and each output's with what the
    body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]

/-- An input's buffer holds its block at every point, whether it was fetched there or not. -/
theorem before_in (c : Dev nD) (w : Fin cfg0.W) (hin : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = iblk m c w t)
    (x : (t : Fin cfg0.N) → (cfg0.win w).block.Idx → Elt F (cfg0.win w).elt)
    (hx : ∀ t d, (dats m 0 c).fetched w t d = x t) (t d) : (dats m 0 c).before w t d = x t :=
  ((dats m 0 c).before_in_eq_fetched w hin hlive hclip
    (fun t => (hcut t).trans (by unfold Dat.blockOf iblk; rw [A_eq])) t d).trans (hx t d)

theorem before0_0 (c : Dev nD) (t : Fin cfg0.N) (d) : (dats m 0 c).before 0 t d = iblk m c 0 t :=
  before_in m c 0 rfl (fun _ => rfl) (fun _ _ _ => rfl) (fun _ => by dsimp only [dats]) (iblk m c 0) (fun _ _ => by unfold Dat.fetched Dat.blockOf iblk; rw [A_eq]; rfl) t d
theorem before0_1 (c : Dev nD) (t : Fin cfg0.N) (d) : (dats m 0 c).before 1 t d = iblk m c 1 t :=
  before_in m c 1 rfl (fun _ => rfl) (fun _ _ _ => rfl) (fun _ => by dsimp only [dats]) (iblk m c 1) (fun _ _ => by unfold Dat.fetched Dat.blockOf iblk; rw [A_eq]; rfl) t d
theorem before0_2 (c : Dev nD) (t : Fin cfg0.N) (d) : (dats m 0 c).before 2 t d = iblk m c 2 t :=
  before_in m c 2 rfl (fun _ => rfl) (fun _ _ _ => rfl) (fun _ => by dsimp only [dats]) (iblk m c 2) (fun _ _ => by unfold Dat.fetched Dat.blockOf iblk; rw [A_eq]; rfl) t d
theorem before0_3 (c : Dev nD) (t : Fin cfg0.N) (d) : (dats m 0 c).before 3 t d = iblk m c 3 t :=
  before_in m c 3 rfl (fun _ => rfl) (fun _ _ _ => rfl) (fun _ => by dsimp only [dats]) (iblk m c 3) (fun _ _ => by unfold Dat.fetched Dat.blockOf iblk; rw [A_eq]; rfl) t d
theorem before0_4 (c : Dev nD) (t : Fin cfg0.N) (d) : (dats m 0 c).before 4 t d = iblk m c 4 t :=
  before_in m c 4 rfl (fun _ => rfl) (fun _ _ _ => rfl) (fun _ => by dsimp only [dats]) (iblk m c 4) (fun _ _ => by unfold Dat.fetched Dat.blockOf iblk; rw [A_eq]; rfl) t d
theorem before0_5 (c : Dev nD) (t : Fin cfg0.N) (d) : (dats m 0 c).before 5 t d = iblk m c 5 t :=
  before_in m c 5 rfl (fun _ => rfl) (fun _ _ _ => rfl) (fun _ => by dsimp only [dats]) (iblk m c 5) (fun _ _ => by unfold Dat.fetched Dat.blockOf iblk; rw [A_eq]; rfl) t d
theorem before0_6 (c : Dev nD) (t : Fin cfg0.N) (d) : (dats m 0 c).before 6 t d = iblk m c 6 t :=
  before_in m c 6 rfl (fun _ => rfl) (fun _ _ _ => rfl) (fun _ => by dsimp only [dats]) (iblk m c 6) (fun _ _ => by unfold Dat.fetched Dat.blockOf iblk; rw [A_eq]; rfl) t d
theorem before0_7 (c : Dev nD) (t : Fin cfg0.N) (d) : (dats m 0 c).before 7 t d = iblk m c 7 t :=
  before_in m c 7 rfl (fun _ => rfl) (fun _ _ _ => rfl) (fun _ => by dsimp only [dats]) (iblk m c 7) (fun _ _ => by unfold Dat.fetched Dat.blockOf iblk; rw [A_eq]; rfl) t d
theorem before0_8 (c : Dev nD) (t : Fin cfg0.N) (d) : (dats m 0 c).before 8 t d = iblk m c 8 t :=
  before_in m c 8 rfl (fun _ => rfl) (fun _ _ _ => rfl) (fun _ => by dsimp only [dats]) (iblk m c 8) (fun _ _ => by unfold Dat.fetched Dat.blockOf iblk; rw [A_eq]; rfl) t d
theorem before0_9 (c : Dev nD) (t : Fin cfg0.N) (d) : (dats m 0 c).before 9 t d = iblk m c 9 t :=
  before_in m c 9 rfl (fun _ => rfl) (fun _ _ _ => rfl) (fun _ => by dsimp only [dats]) (iblk m c 9) (fun _ _ => by unfold Dat.fetched Dat.blockOf iblk; rw [A_eq]; rfl) t d
theorem before0_10 (c : Dev nD) (t : Fin cfg0.N) (d) : (dats m 0 c).before 10 t d = iblk m c 10 t :=
  before_in m c 10 rfl (fun _ => rfl) (fun _ _ _ => rfl) (fun _ => by dsimp only [dats]) (iblk m c 10) (fun _ _ => by unfold Dat.fetched Dat.blockOf iblk; rw [A_eq]; rfl) t d
theorem before0_11 (c : Dev nD) (t : Fin cfg0.N) (d) : (dats m 0 c).before 11 t d = iblk m c 11 t :=
  before_in m c 11 rfl (fun _ => rfl) (fun _ _ _ => rfl) (fun _ => by dsimp only [dats]) (iblk m c 11) (fun _ _ => by unfold Dat.fetched Dat.blockOf iblk; rw [A_eq]; rfl) t d
theorem before0_12 (c : Dev nD) (t : Fin cfg0.N) (d) : (dats m 0 c).before 12 t d = iblk m c 12 t :=
  before_in m c 12 rfl (fun _ => rfl) (fun _ _ _ => rfl) (fun _ => by dsimp only [dats]) (iblk m c 12) (fun _ _ => by unfold Dat.fetched Dat.blockOf iblk; rw [A_eq]; rfl) t d
theorem before0_13 (c : Dev nD) (t : Fin cfg0.N) (d) : (dats m 0 c).before 13 t d = iblk m c 13 t :=
  before_in m c 13 rfl (fun _ => rfl) (fun _ _ _ => rfl) (fun _ => by dsimp only [dats]) (iblk m c 13) (fun _ _ => by unfold Dat.fetched Dat.blockOf iblk; rw [A_eq]; rfl) t d

/-- After the first point the running counts are those that the point before left. -/
theorem before_counts (c : Dev nD) (t : Fin cfg0.N) (h0 : ¬t.val % 64 = 0) (d) :
    (dats m 0 c).before 17 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body at a point -/

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats],
    show (dats m 0 c).after 1 t = iblk m c 1 t from by dsimp only [dats],
    show (dats m 0 c).after 2 t = iblk m c 2 t from by dsimp only [dats],
    show (dats m 0 c).after 3 t = iblk m c 3 t from by dsimp only [dats],
    show (dats m 0 c).after 4 t = iblk m c 4 t from by dsimp only [dats],
    show (dats m 0 c).after 5 t = iblk m c 5 t from by dsimp only [dats],
    show (dats m 0 c).after 6 t = iblk m c 6 t from by dsimp only [dats],
    show (dats m 0 c).after 7 t = iblk m c 7 t from by dsimp only [dats],
    show (dats m 0 c).after 8 t = iblk m c 8 t from by dsimp only [dats],
    show (dats m 0 c).after 9 t = iblk m c 9 t from by dsimp only [dats],
    show (dats m 0 c).after 10 t = iblk m c 10 t from by dsimp only [dats],
    show (dats m 0 c).after 11 t = iblk m c 11 t from by dsimp only [dats],
    show (dats m 0 c).after 12 t = iblk m c 12 t from by dsimp only [dats],
    show (dats m 0 c).after 13 t = iblk m c 13 t from by dsimp only [dats],
    after0_14, after0_15, show (dats m 0 c).after 16 t = (outsAt0 m c t.val t.isLt).2.2.1 from by dsimp only [dats],
    show (dats m 0 c).after 17 t = (outsAt0 m c t.val t.isLt).2.2.2 from by dsimp only [dats]]
  have hN : t.val < 64 := lt_of_lt_of_eq t.isLt (show cfg0.N = 64 from N_0)
  by_cases h0 : t.val % 64 = 0
  on_goal 1 =>
    have C := (covers m c t).1 h0
    rw [outsAt0_A m c t h0]
  on_goal 2 =>
    have C := (covers m c t).2 h0 (outsAt0 m c (t.val - 1) (Nat.lt_of_le_of_lt (Nat.sub_le _ _) t.isLt)).2.2.2
    rw [outsAt0_B m c t h0]
    simp only [before_counts m c t h0]
  all_goals
    unfold outs
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  on_goal 1 => iapply (runA m c t h0).2.2.2.2 Set.univ _
  on_goal 2 => iapply (runB m c t h0 _).2.2.2.2 Set.univ _
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · first | iexact H17 | (iexists _; iexact H17)
    iintro ⟨H0, H1, H2, H3, H4, H5, H6, H7, H8, H9, H10, H11, H12, H13, ⟨%e14, H14⟩, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ C.1
    isplitl [H15]
    · unfold owns; iexists _; isplitr
      swap; · iexact H15
      ipureintro; exact View.read_writes_of_cover _ _ _ _ _ C.2.1
    isplitl [H16]
    · unfold owns; iexists _; isplitr
      swap; · iexact H16
      ipureintro; exact View.read_writes_of_cover _ _ _ _ _ C.2.2.1
    unfold owns; iexists _; isplitr
    swap; · iexact H17
    ipureintro; exact View.read_writes_of_cover _ _ _ _ _ C.2.2.2

/-- The body's call at a point is the body at the point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The call leaves what its blocks make of its arrays, every other buffer as it found it, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run leaves its arguments and the counters. -/
theorem frame : θ_run defs (onTc (τ := τ) (main (F := F))) ⟨m, fun _ => 0, ρ⟩ (fun r => (∀ c : Dev nD, Kept m r.2.mem c) ∧ r.2.sem = fun _ => 0) :=
  (θ_run defs _ _).mono (fun r h => ⟨kept m (dats m) (A_eq m) r h.1, h.2⟩) (run_main_quiescent m ρ)

/-- It leaves the sum and the norm that its blocks make, and the arguments. -/
theorem run_blocks : θ_run defs (onTc (τ := τ) (main (F := F))) ⟨m, fun _ => 0, ρ⟩ (fun r => ∀ c : Dev nD,
      r.2.mem ((c.tc : Thread nD τ).loc main_v42_0) = (dats m 0 c).arrAt 14 cfg0.N
      ∧ r.2.mem ((c.tc : Thread nD τ).loc main_v42_1) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h.1 c).1 14, (h.1 c).1 15, kept m (dats m) (A_eq m) r h.1 c⟩) (run_main_quiescent m ρ)

end Cert.Kernel3Ideal.Merge

end
-- ==== Proof.Merge.Prep.lean ====
module

public import proofs.«01_k».proof.Proof.Merge.Frame
public import Idealize.ShloMosaic.Lib.StableHlo.RunRead
public import Idealize.ShloMosaic.Lib.Pointwise

/-! The arrays that the call `merge` is given, in terms of the arguments. -/

@[expose] public section

set_option maxRecDepth 65536

noncomputable section

open Idealize.ShloMosaic Idealize.ShloMosaic.TcCoe Idealize.SL.Sem

namespace Cert.Kernel3Ideal.Merge

open Cert.Kernel3Ideal.Gen

variable (m : (ℓ : Loc nD τ sig) → Buf (Elt Ideal) ℓ) (c : Dev nD)

theorem gate_read (b : Fin 16) (k : Fin 1024) : V m c main_v38 (ix3 b 0 k) = m ((c : Thread nD τ).loc main_arg4) (ix2 b k) := by
  show StableHlo.after hostOps0 _ _ _ = _
  after_reads_simp
  pointwise

theorem shift_read (b : Fin 16) (k : Fin 1024) : V m c main_v39 (ix3 b 0 k) = m ((c : Thread nD τ).loc main_arg5) (ix2 b k) := by
  show StableHlo.after hostOps0 _ _ _ = _
  after_reads_simp
  pointwise

theorem scale_read (b : Fin 16) (k : Fin 1024) : V m c main_v40 (ix3 b 0 k) = m ((c : Thread nD τ).loc main_arg6) (ix2 b k) := by
  show StableHlo.after hostOps0 _ _ _ = _
  after_reads_simp
  pointwise

/-- The norm's gain. -/
theorem gain_read (k : Fin 1024) : V m c main_v41 (ix2 0 k) = m ((c : Thread nD τ).loc main_arg7) (ix2 0 k) := by
  show StableHlo.after hostOps0 _ _ _ = _
  after_reads_simp
  pointwise

theorem wr_read (k : Fin 512) (j : Fin 1024) : V m c main_v25 (ix2 k j) = m ((c : Thread nD τ).loc main_arg8) (ix3 0 k j) := by
  show StableHlo.after hostOps0 _ _ _ = _
  after_reads_simp
  pointwise

theorem wa_read (k : Fin 512) (j : Fin 1024) : V m c main_v27 (ix2 k j) = m ((c : Thread nD τ).loc main_arg9) (ix3 0 k j) := by
  show StableHlo.after hostOps0 _ _ _ = _
  after_reads_simp
  pointwise

theorem wo_read (k : Fin 1024) (j : Fin 1024) : V m c main_v29 (ix2 k j) = m ((c : Thread nD τ).loc main_arg10) (ix3 0 k j) := by
  show StableHlo.after hostOps0 _ _ _ = _
  after_reads_simp
  pointwise

end Cert.Kernel3Ideal.Merge

end
-- ==== Proof.Merge.Block.lean ====
module

public import proofs.«01_k».proof.Proof.Gen.Kernel3Ideal.Skeleton
public import proofs.«01_k».proof.Proof.Gen.Kernel3Ideal
public import proofs.«01_k».proof.Proof.Inproj.Eq
public import Idealize.ShloMosaic.Lib.Pointwise
public import Idealize.ShloMosaic.Lib.Pipeline.ValueKit

/-! What one block of `merge` computes, element by element: the sum after the mixer, and its modulated norm. -/

@[expose] public section

set_option maxRecDepth 16384

noncomputable section

open Idealize.ShloMosaic Idealize.ShloMosaic.TcCoe Idealize.SL.Sem

namespace Cert.Merge

/-- Column `j` of the gated sum of the two branches of a row, each projected. -/
def gated (yr ya : Fin 512 → EReal) (gt : Fin 2048 → EReal) (wr wa : Fin 512 → Fin 1024 → EReal) (j : Fin 1024) : EReal :=
  gt ⟨j.val, by omega⟩ * (∑ k, yr k * wr k j) + gt ⟨1024 + j.val, by omega⟩ * (∑ k, ya k * wa k j)

/-- Column `l` of a row after the mixer. -/
def mixed (yr ya : Fin 512 → EReal) (gt : Fin 2048 → EReal) (x g : Fin 1024 → EReal) (wr wa : Fin 512 → Fin 1024 → EReal)
    (wo : Fin 1024 → Fin 1024 → EReal) (l : Fin 1024) : EReal :=
  x l + g l * ∑ j, gated yr ya gt wr wa j * wo j l

end Cert.Merge

namespace Cert.Kernel3Ideal.Merge

open Cert.Kernel3Ideal.Gen Cert.Merge Cert.Inproj

theorem mix_apply (v5 v11 : Vec Ideal S1x512x512 .f32) (v8 v14 : Vec Ideal S512x1024 .bf16) (v17 : Vec Ideal S1x512x2048 .f32)
    (v25 : Vec Ideal S1024x1024 .bf16) (r : Fin 512) (l : Fin 1024) :
    k0_pay4 v5 v8 v11 v14 v17 v25 (ix2 r l) = ∑ j, gated (fun k => v5 (ix3 0 r k)) (fun k => v11 (ix3 0 r k)) (fun k => v17 (ix3 0 r k))
      (fun k j => v8 (ix2 k j)) (fun k j => v14 (ix2 k j)) j * v25 (ix2 j l) := by
  unfold k0_pay4 gated
  pointwise

/-- The sum after the mixer, from the mixer's rows `p`. -/
theorem sum_apply (p : FVec Ideal S512x1024 .f32) (v28 : Vec Ideal S1x512x1024 .f32) (v30 : Vec Ideal S1x1x1024 .f32) (r : Fin 512) (l : Fin 1024) :
    k0_pay6 p (k0_pay5 v28) v30 (ix2 r l) = (v28 (ix3 0 r l) : EReal) + v30 (ix3 0 0 l) * p (ix2 r l) := by
  unfold k0_pay6 k0_pay5
  pointwise

theorem sum_block (p : FVec Ideal S512x1024 .f32) (v28 : Vec Ideal S1x512x1024 .f32) (v30 : Vec Ideal S1x1x1024 .f32) (r : Fin 512) (l : Fin 1024) :
    k0_pay7 p (k0_pay5 v28) v30 (ix3 0 r l) = k0_pay6 p (k0_pay5 v28) v30 (ix2 r l) := by
  unfold k0_pay7
  pointwise

/-- Its modulated norm. -/
theorem norm_apply (p q : FVec Ideal S512x1024 .f32) (v30 v40 v42 : Vec Ideal S1x1x1024 .f32) (v38 : Vec Ideal S1x1024 .f32) (r : Fin 512) (l : Fin 1024) :
    k0_pay8 p q v30 v38 v40 v42 (ix2 r l) = hid (fun k => k0_pay6 p q v30 (ix2 r k)) (fun k => v38 (ix2 0 k)) (fun k => v40 (ix3 0 0 k)) (fun k => v42 (ix3 0 0 k)) l := by
  unfold k0_pay8 hid
  pointwise

end Cert.Kernel3Ideal.Merge

end
-- ==== Proof.Merge.Out.lean ====
module

public import proofs.«01_k».proof.Proof.Merge.Frame
public import proofs.«01_k».proof.Proof.Merge.Block

/-! What the body of `merge` leaves in its first two output blocks: the sum after the mixer, and its modulated norm,
whose rows are cut into eight parts that follow one another in the block. -/

@[expose] public section

set_option maxRecDepth 16384

noncomputable section

open Idealize.ShloMosaic Idealize.ShloMosaic.TcCoe Idealize.SL.Sem

namespace Cert.Kernel3Ideal.Merge

open Cert.Kernel3Ideal.Gen Cert.Merge Cert.Inproj

/-- The rows of `N`, each cut into eight parts that follow one another. -/
def tile (N : S512x1024.Idx → EReal) (y : S1x4096x128.Idx) : EReal :=
  N (ix2 ⟨(y 1).val / 8, by have : (y 1).val < 4096 := (y 1).isLt; omega⟩
    ⟨128 * ((y 1).val % 8) + (y 2).val, by have : (y 2).val < 128 := (y 2).isLt; omega⟩)

/-- The rows that part `j` of every row is stored in. -/
abbrev strip (j : ℕ) (h : ∀ a, (![512, 128] : Fin 2 → ℕ) a = 0 ∨ (![j, 0] : Fin 2 → ℕ) a + (![8, 1] : Fin 2 → ℕ) a * ((![512, 128] : Fin 2 → ℕ) a - 1) < S4096x128.size a)
    (hp : ∀ a, 0 < (![8, 1] : Fin 2 → ℕ) a) : Rect S4096x128 :=
  { off := ![j, 0], size := ![512, 128], stride := ![8, 1], inb := h, stride_pos := hp }

/-- What the store of part `j` writes, at each of its places in the block. -/
theorem part_apply (N : S512x1024.Idx → EReal) (j : ℕ) (hj : j < 8) (P : S512x128.Idx → EReal)
    (hP : ∀ (r : Fin 512) (l : Fin 128), P (ix2 r l) = N (ix2 r ⟨128 * j + l.val, by omega⟩))
    (h₁) (h₂) (h₃) (h₄) (h₅) (h₆) (h₇)
    (x : ((Rect.unit (s := S1x4096x128) ![0, 0, 0] ![1, 4096, 128] h₁).within ((strip j h₂ h₃).consLift ![1, 4096, 128] h₄ h₅) h₆).shape.Idx) :
    Rect.payAlong (r := strip j h₂ h₃) (R := (strip j h₂ h₃).consLift ![1, 4096, 128] h₄ h₅) h₇ P x
      = tile N (((Rect.unit (s := S1x4096x128) ![0, 0, 0] ![1, 4096, 128] h₁).within ((strip j h₂ h₃).consLift ![1, 4096, 128] h₄ h₅) h₆).emb x) := by
  have e₁ : (x 1).val < 512 := (x 1).isLt
  have e₂ : (x 2).val < 128 := (x 2).isLt
  refine (Rect.payAlong_consLift (strip j h₂ h₃) ![1, 4096, 128] h₄ h₅ P h₇ x
    (ix2 ⟨(x 1).val, e₁⟩ ⟨(x 2).val, e₂⟩) (fun i => by fin_cases i <;> rfl)).trans ((hP _ _).trans ?_)
  unfold tile
  generalize hz : ((Rect.unit (s := S1x4096x128) ![0, 0, 0] ![1, 4096, 128] h₁).within ((strip j h₂ h₃).consLift ![1, 4096, 128] h₄ h₅) h₆).emb x = z
  have a₁ : (z 1).val = 0 + j + 8 * (x 1).val := by rw [← hz]; rfl
  have a₂ : (z 2).val = 0 + 0 + 1 * (x 2).val := by rw [← hz]; rfl
  refine congrArg₂ (fun a b => N (ix2 a b)) (Fin.ext ?_) (Fin.ext ?_)
  · show (x 1).val = (z 1).val / 8
    omega
  · show 128 * j + (x 2).val = 128 * ((z 1).val % 8) + (z 2).val
    omega

variable (m : (ℓ : Loc nD τ sig) → Buf (Elt Ideal) ℓ)

/-- The sum after the mixer at a grid point, from the point's blocks. -/
abbrev sumAt (c : Dev nD) (t : Fin cfg0.N) : FVec Ideal S512x1024 .f32 :=
  k0_pay6 (k0_pay4 (iblk m c 0 t) (iblk m c 8 t) (iblk m c 1 t) (iblk m c 9 t) (iblk m c 2 t) (iblk m c 10 t)) (k0_pay5 (iblk m c 3 t)) (iblk m c 4 t)

/-- Its modulated norm. -/
abbrev normAt (c : Dev nD) (t : Fin cfg0.N) : FVec Ideal S512x1024 .f32 :=
  k0_pay8 (k0_pay4 (iblk m c 0 t) (iblk m c 8 t) (iblk m c 1 t) (iblk m c 9 t) (iblk m c 2 t) (iblk m c 10 t)) (k0_pay5 (iblk m c 3 t)) (iblk m c 4 t)
    (iblk m c 7 t) (iblk m c 5 t) (iblk m c 6 t)

theorem out14_apply (c : Dev nD) (t : Fin cfg0.N) (r : Fin 512) (l : Fin 1024) :
    (outsAt0 m c t.val t.isLt).1 (ix3 0 r l) = sumAt m c t (ix2 r l) := by
  by_cases h : t.val % 64 = 0
  · rw [outsAt0_A m c t h]
    unfold outs runA kernelRun0_A
    dsimp only
    frame_out
    exact sum_block _ _ _ r l
  · rw [outsAt0_B m c t h]
    unfold outs runB kernelRun0_B
    dsimp only
    frame_out
    exact sum_block _ _ _ r l

theorem out15_apply (c : Dev nD) (t : Fin cfg0.N) (y : S1x4096x128.Idx) :
    (outsAt0 m c t.val t.isLt).2.1 y = tile (normAt m c t) y := by
  by_cases h : t.val % 64 = 0
  on_goal 1 =>
    rw [outsAt0_A m c t h]
    unfold outs runA kernelRun0_A
  on_goal 2 =>
    rw [outsAt0_B m c t h]
    unfold outs runB kernelRun0_B
  all_goals
    dsimp only
    frame_out
    refine View.canon_apply_of_pieces (Val := Elt Ideal) (e := .f32) (tile (normAt m c t)) _ ?_ y ?_
    · simp only [List.forall_mem_cons]
      exact ⟨fun x => part_apply _ 7 (by omega) _ (fun r l => by unfold k0_pay16; pointwise) _ _ _ _ _ _ _ x,
        fun x => part_apply _ 6 (by omega) _ (fun r l => by unfold k0_pay15; pointwise) _ _ _ _ _ _ _ x,
        fun x => part_apply _ 5 (by omega) _ (fun r l => by unfold k0_pay14; pointwise) _ _ _ _ _ _ _ x,
        fun x => part_apply _ 4 (by omega) _ (fun r l => by unfold k0_pay13; pointwise) _ _ _ _ _ _ _ x,
        fun x => part_apply _ 3 (by omega) _ (fun r l => by unfold k0_pay12; pointwise) _ _ _ _ _ _ _ x,
        fun x => part_apply _ 2 (by omega) _ (fun r l => by unfold k0_pay11; pointwise) _ _ _ _ _ _ _ x,
        fun x => part_apply _ 1 (by omega) _ (fun r l => by unfold k0_pay10; pointwise) _ _ _ _ _ _ _ x,
        fun x => part_apply _ 0 (by omega) _ (fun r l => by unfold k0_pay9; pointwise) _ _ _ _ _ _ _ x,
        fun _ hp => absurd hp List.not_mem_nil⟩
    · exact cover_rows _ rfl (fun k => by
        fin_cases k <;> exact ⟨fun a => by fin_cases a <;> rfl, fun a => by fin_cases a <;> rfl, fun a => by fin_cases a <;> rfl⟩) y

end Cert.Kernel3Ideal.Merge

end
-- ==== Proof.Merge.Ref.lean ====
module

public import proofs.«01_k».proof.Proof.Merge.Block
public import proofs.«01_k».proof.Proof.Gen.Reference3Ideal.Read

/-! The reference's sum after the mixer, and its modulated norm. -/

@[expose] public section

set_option maxRecDepth 16384

noncomputable section

open Idealize.ShloMosaic Idealize.ShloMosaic.TcCoe Idealize.SL.Sem

namespace Cert.Reference3Ideal.Merge

open Cert.Reference3Ideal Cert.Reference3Ideal.Gen Cert.Reference3Ideal.Read Cert.Inproj Cert.Merge

variable (yr ya : S16x2048x512.Idx → EReal) (gt : S16x2048x2048.Idx → EReal) (x : S16x2048x1024.Idx → EReal) (g1 sh sc : S16x1024.Idx → EReal)
  (g : S1x1024.Idx → EReal) (wr wa : S1x512x1024.Idx → EReal) (wo : S1x1024x1024.Idx → EReal)

/-- The sum after the mixer, of whole arrays. -/
abbrev sum (b : Fin 16) (i : Fin 2048) (l : Fin 1024) : EReal :=
  mixed (fun k => yr (ix3 b i k)) (fun k => ya (ix3 b i k)) (fun k => gt (ix3 b i k)) (fun k => x (ix3 b i k)) (fun k => g1 (ix2 b k))
    (fun k j => wr (ix3 0 k j)) (fun k j => wa (ix3 0 k j)) (fun k j => wo (ix3 0 k j)) l

theorem gated_ref (b : Fin 16) (i : Fin 2048) (j : Fin 1024) :
    val_main_v8 (F := Ideal) yr ya gt wr wa (ix3 b i j) = gated (fun k => yr (ix3 b i k)) (fun k => ya (ix3 b i k)) (fun k => gt (ix3 b i k))
      (fun k j => wr (ix3 0 k j)) (fun k j => wa (ix3 0 k j)) j := by
  unfold val_main_v8 val_main_v7 val_main_v6 val_main_v5 val_main_v4 val_main_v3 val_main_v2 val_main_v1 val_main_v0 gated
  pointwise

theorem sum_ref (b : Fin 16) (i : Fin 2048) (l : Fin 1024) :
    val_main_v14 (F := Ideal) yr ya gt x g1 wr wa wo (ix3 b i l) = sum yr ya gt x g1 wr wa wo b i l := by
  unfold sum mixed
  simp only [← gated_ref]
  unfold val_main_v14 val_main_v13 val_main_v12 val_main_v11 val_main_v10 val_main_v9
  pointwise

theorem norm_ref (b : Fin 16) (i : Fin 2048) (l : Fin 1024) :
    val_main_v36 (F := Ideal) yr ya gt x g1 sh sc g wr wa wo (ix3 b i l)
      = hid (sum yr ya gt x g1 wr wa wo b i) (fun k => g (ix2 0 k)) (fun k => sh (ix2 b k)) (fun k => sc (ix2 b k)) l := by
  unfold hid
  simp only [← sum_ref]
  unfold val_main_v36 val_main_v35 val_main_v34 val_main_v33 val_main_v32 val_main_v31 val_main_v30 val_main_cst_2 val_main_v29 val_main_v28
    val_main_v27 val_main_v26 val_main_v25 val_main_v24 val_main_v23 val_main_v22 val_main_v21 val_main_cst_1 val_main_v20 val_main_v19
    val_main_cst_0 val_main_v18 val_main_v17 val_main_cst val_main_v16 val_main_v15
  pointwise

/-- The norm as the reference returns it: every row cut into eight parts. -/
theorem tiles_ref (b : Fin 16) (y : Fin 16384) (l : Fin 128) :
    val_main_v37 (F := Ideal) yr ya gt x g1 sh sc g wr wa wo (ix3 b y l)
      = hid (sum yr ya gt x g1 wr wa wo b ⟨y.val / 8, by omega⟩) (fun k => g (ix2 0 k)) (fun k => sh (ix2 b k)) (fun k => sc (ix2 b k))
        ⟨128 * (y.val % 8) + l.val, by omega⟩ := by
  rw [← norm_ref]
  unfold val_main_v37
  pointwise
  exact congrArg (fun j => val_main_v36 (F := Ideal) yr ya gt x g1 sh sc g wr wa wo (ix3 b ⟨y.val / 8, by omega⟩ j)) (Fin.ext (by dsimp only; omega))

end Cert.Reference3Ideal.Merge

end
-- ==== Proof.Merge.Array.lean ====
module

public import proofs.«01_k».proof.Proof.Merge.Prep
public import proofs.«01_k».proof.Proof.Merge.Out
public import proofs.«01_k».proof.Proof.Merge.Ref

/-! The two arrays that `merge` leaves: they are the reference's. -/

@[expose] public section

set_option maxRecDepth 16384

noncomputable section

open Idealize.ShloMosaic Idealize.ShloMosaic.TcCoe Idealize.SL.Sem

namespace Cert.Kernel3Ideal.Merge

open Cert.Kernel3Ideal.Gen Cert.Merge Cert.Inproj

/-- There are 64 grid points: four for each sequence. -/
theorem t_lt (t : Fin cfg0.N) : t.val < 64 := t.isLt

theorem idx_rows : ∀ (t : Fin cfg0.N), (cfg0.win 0).index t = ![t.val / 4, t.val % 4, 0] ∧ (cfg0.win 1).index t = ![t.val / 4, t.val % 4, 0]
    ∧ (cfg0.win 2).index t = ![t.val / 4, t.val % 4, 0] ∧ (cfg0.win 3).index t = ![t.val / 4, t.val % 4, 0]
    ∧ (cfg0.win 14).index t = ![t.val / 4, t.val % 4, 0] ∧ (cfg0.win 15).index t = ![t.val / 4, t.val % 4, 0] := by
  decide +kernel

theorem idx_seq : ∀ (t : Fin cfg0.N), (cfg0.win 4).index t = ![t.val / 4, 0, 0] ∧ (cfg0.win 5).index t = ![t.val / 4, 0, 0]
    ∧ (cfg0.win 6).index t = ![t.val / 4, 0, 0] := by
  decide +kernel

theorem idx_all : ∀ (t : Fin cfg0.N), (cfg0.win 7).index t = ![0, 0] ∧ (cfg0.win 8).index t = ![0, 0] ∧ (cfg0.win 9).index t = ![0, 0]
    ∧ (cfg0.win 10).index t = ![0, 0] := by
  decide +kernel

variable (m : (ℓ : Loc nD τ sig) → Buf (Elt Ideal) ℓ) (c : Dev nD)

/-- The sequence of a grid point. -/
abbrev seq (t : Fin cfg0.N) : Fin 16 := ⟨t.val / 4, by have := t_lt t; omega⟩

/-- The row in its sequence of a block's row. -/
abbrev row (t : Fin cfg0.N) (r : Fin 512) : Fin 2048 := ⟨512 * (t.val % 4) + r.val, by omega⟩

theorem blk_yr (t : Fin cfg0.N) (r k : Fin 512) : iblk m c 0 t (ix3 0 r k) = m ((c : Thread nD τ).loc main_arg0) (ix3 (seq t) (row t r) k) := by
  blk_point [iblk, V_arg m c main_arg0 (by decide), (idx_rows t).1]

theorem blk_ya (t : Fin cfg0.N) (r k : Fin 512) : iblk m c 1 t (ix3 0 r k) = m ((c : Thread nD τ).loc main_arg1) (ix3 (seq t) (row t r) k) := by
  blk_point [iblk, V_arg m c main_arg1 (by decide), (idx_rows t).2.1]

theorem blk_gates (t : Fin cfg0.N) (r : Fin 512) (k : Fin 2048) :
    iblk m c 2 t (ix3 0 r k) = m ((c : Thread nD τ).loc main_arg2) (ix3 (seq t) (row t r) k) := by
  blk_point [iblk, V_arg m c main_arg2 (by decide), (idx_rows t).2.2.1]

theorem blk_x (t : Fin cfg0.N) (r : Fin 512) (k : Fin 1024) :
    iblk m c 3 t (ix3 0 r k) = m ((c : Thread nD τ).loc main_arg3) (ix3 (seq t) (row t r) k) := by
  blk_point [iblk, V_arg m c main_arg3 (by decide), (idx_rows t).2.2.2.1]

theorem blk_gate (t : Fin cfg0.N) (k : Fin 1024) : iblk m c 4 t (ix3 0 0 k) = m ((c : Thread nD τ).loc main_arg4) (ix2 (seq t) k) := by
  rw [← gate_read m c (seq t) k]
  blk_point [iblk, (idx_seq t).1]

theorem blk_shift (t : Fin cfg0.N) (k : Fin 1024) : iblk m c 5 t (ix3 0 0 k) = m ((c : Thread nD τ).loc main_arg5) (ix2 (seq t) k) := by
  rw [← shift_read m c (seq t) k]
  blk_point [iblk, (idx_seq t).2.1]

theorem blk_scale (t : Fin cfg0.N) (k : Fin 1024) : iblk m c 6 t (ix3 0 0 k) = m ((c : Thread nD τ).loc main_arg6) (ix2 (seq t) k) := by
  rw [← scale_read m c (seq t) k]
  blk_point [iblk, (idx_seq t).2.2]

theorem blk_gain (t : Fin cfg0.N) (k : Fin 1024) : iblk m c 7 t (ix2 0 k) = m ((c : Thread nD τ).loc main_arg7) (ix2 0 k) := by
  rw [← gain_read m c k]
  blk_point [iblk, (idx_all t).1]

theorem blk_wr (t : Fin cfg0.N) (k : Fin 512) (j : Fin 1024) : iblk m c 8 t (ix2 k j) = m ((c : Thread nD τ).loc main_arg8) (ix3 0 k j) := by
  rw [← wr_read m c k j]
  blk_point [iblk, (idx_all t).2.1]

theorem blk_wa (t : Fin cfg0.N) (k : Fin 512) (j : Fin 1024) : iblk m c 9 t (ix2 k j) = m ((c : Thread nD τ).loc main_arg9) (ix3 0 k j) := by
  rw [← wa_read m c k j]
  blk_point [iblk, (idx_all t).2.2.1]

theorem blk_wo (t : Fin cfg0.N) (k j : Fin 1024) : iblk m c 10 t (ix2 k j) = m ((c : Thread nD τ).loc main_arg10) (ix3 0 k j) := by
  rw [← wo_read m c k j]
  blk_point [iblk, (idx_all t).2.2.2]

/-- The sum after the mixer, of the arguments. -/
def sumM (b : Fin 16) (i : Fin 2048) (l : Fin 1024) : EReal :=
  Cert.Reference3Ideal.Merge.sum (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg8))
    (m ((c : Thread nD τ).loc main_arg9)) (m ((c : Thread nD τ).loc main_arg10)) b i l

/-- Its modulated norm, of the arguments. -/
def normM (b : Fin 16) (i : Fin 2048) (l : Fin 1024) : EReal :=
  hid (sumM m c b i) (fun k => m ((c : Thread nD τ).loc main_arg7) (ix2 0 k)) (fun k => m ((c : Thread nD τ).loc main_arg5) (ix2 b k))
    (fun k => m ((c : Thread nD τ).loc main_arg6) (ix2 b k)) l

theorem sumAt_apply (t : Fin cfg0.N) (r : Fin 512) (l : Fin 1024) : sumAt m c t (ix2 r l) = sumM m c (seq t) (row t r) l := by
  unfold sumAt sumM Cert.Reference3Ideal.Merge.sum mixed
  rw [sum_apply, mix_apply, blk_gate, blk_x]
  simp only [blk_yr, blk_ya, blk_gates, blk_wr, blk_wa, blk_wo]

theorem normAt_apply (t : Fin cfg0.N) (r : Fin 512) (l : Fin 1024) : normAt m c t (ix2 r l) = normM m c (seq t) (row t r) l := by
  have e (k : Fin 1024) := sumAt_apply m c t r k
  unfold normAt normM
  unfold sumAt at e
  rw [norm_apply]
  simp only [e, blk_gain, blk_shift, blk_scale]

/-- Where a grid point's block of the sum lies. -/
theorem place14 (t : Fin cfg0.N) (r : Fin 512) (l : Fin 1024) :
    (win0_14.blk t).view.emb (ix3 0 r l) = (ix3 (seq t) (row t r) l : S16x2048x1024.Idx) := by
  have e := (idx_rows t).2.2.2.2.1
  have h0 : ((win0_14.blk t).view.emb (ix3 0 r l) 0).val = t.val / 4 := by blk_simp [e]; exact Nat.add_zero _
  have h1 : ((win0_14.blk t).view.emb (ix3 0 r l) 1).val = 512 * (t.val % 4) + r.val := by blk_simp [e]; omega
  have h2 : ((win0_14.blk t).view.emb (ix3 0 r l) 2).val = l.val := by blk_simp [e]
  funext a
  fin_cases a
  · exact Fin.ext h0
  · exact Fin.ext h1
  · exact Fin.ext h2

theorem array14 : (dats m 0 c).arrAt 14 cfg0.N = (fun i => sumM m c (i 0) (i 1) (i 2) : S16x2048x1024.Idx → EReal) := by
  refine (dats m 0 c).arrAt_eq_of_covers 14 _ (by decide +kernel) fun t hf y => ?_
  blk_simp
  rw [after0_14]
  obtain ⟨r, l, rfl⟩ : ∃ (r : Fin 512) (l : Fin 1024), y = (ix3 0 r l : S1x512x1024.Idx) := ⟨y 1, y 2, by
    funext k; fin_cases k
    · exact Fin.ext (by have : (y 0).val < 1 := (y 0).isLt; show (y 0).val = 0; omega)
    · rfl
    · rfl⟩
  rw [out14_apply, place14, sumAt_apply]
  rfl

/-- Where a grid point's block of the norm lies. -/
theorem place15 (t : Fin cfg0.N) (y : Fin 4096) (l : Fin 128) :
    (win0_15.blk t).view.emb (ix3 0 y l) = (ix3 (seq t) ⟨4096 * (t.val % 4) + y.val, by omega⟩ l : S16x16384x128.Idx) := by
  have e := (idx_rows t).2.2.2.2.2
  have h0 : ((win0_15.blk t).view.emb (ix3 0 y l) 0).val = t.val / 4 := by blk_simp [e]; exact Nat.add_zero _
  have h1 : ((win0_15.blk t).view.emb (ix3 0 y l) 1).val = 4096 * (t.val % 4) + y.val := by blk_simp [e]; omega
  have h2 : ((win0_15.blk t).view.emb (ix3 0 y l) 2).val = l.val := by blk_simp [e]
  funext a
  fin_cases a
  · exact Fin.ext h0
  · exact Fin.ext h1
  · exact Fin.ext h2

/-- The norm of the arguments, every row cut into eight parts. -/
def partM (b : Fin 16) (y : Fin 16384) (l : Fin 128) : EReal :=
  normM m c b ⟨y.val / 8, by omega⟩ ⟨128 * (y.val % 8) + l.val, by omega⟩

theorem array15 : (dats m 0 c).arrAt 15 cfg0.N = (fun i => partM m c (i 0) (i 1) (i 2) : S16x16384x128.Idx → EReal) := by
  refine (dats m 0 c).arrAt_eq_of_covers 15 _ (by decide +kernel) fun t hf y => ?_
  blk_simp
  rw [after0_15]
  obtain ⟨s, l, rfl⟩ : ∃ (s : Fin 4096) (l : Fin 128), y = (ix3 0 s l : S1x4096x128.Idx) := ⟨y 1, y 2, by
    funext k; fin_cases k
    · exact Fin.ext (by have : (y 0).val < 1 := (y 0).isLt; show (y 0).val = 0; omega)
    · rfl
    · rfl⟩
  rw [out15_apply, place15]
  refine (normAt_apply m c t _ _).trans ?_
  show normM m c (seq t) _ _ = normM m c (seq t) _ _
  refine congrArg₂ (normM m c (seq t)) (Fin.ext ?_) (Fin.ext ?_)
  · show 512 * (t.val % 4) + s.val / 8 = (4096 * (t.val % 4) + s.val) / 8
    omega
  · show 128 * (s.val % 8) + l.val = 128 * ((4096 * (t.val % 4) + s.val) % 8) + l.val
    omega

end Cert.Kernel3Ideal.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Attn.Finite
public import proofs.«01_k».proof.Proof.Inproj.Array
public import proofs.«01_k».proof.Proof.Inproj.Ref
public import proofs.«01_k».proof.Proof.Merge.Array
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's run leaves its arguments and the counters. -/
theorem ref_frame : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

/-- The two results are equal. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v93 m' c = (Cert.KernelIdeal.Gen.dats m 0 c).arrAt 4 Cert.KernelIdeal.cfg0.N := by
  obtain ⟨hq, hk, hb⟩ := Cert.KernelIdeal.Attn.real_args _ _ _ _ (hpre c)
  obtain ⟨h0, h1, h2, h3⟩ := hagree
  rw [Cert.ReferenceIdeal.Read.val_main_v93_eq, h0, h1, h2, h3]
  refine Eq.trans ?_ (Cert.KernelIdeal.Attn.array_read m c).symm
  funext i
  refine Eq.trans ?_ (Cert.KernelIdeal.Attn.agree _ _ _ _ hq hk hb (i 0) (i 1) (i 2)).symm
  congr 1
  funext a
  fin_cases a <;> rfl

theorem equal : Cert.algebraic_KernelIdeal_ReferenceIdeal_pre_finite := by
  pair_intro
  · run_from Cert.KernelIdeal.Value.run_blocks m g
  · run_from Cert.ReferenceIdeal.Value.run m' g'
    exact results m m' hpre c (hagree c)

/-- The input projection's reference leaves its arguments and the counters. -/
theorem ref_frame2 : Cert.quiescent_Reference2Ideal := by
  intro m g _
  exact (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m g)

section
variable (m : (ℓ : Loc Cert.Kernel2Ideal.nD Cert.Kernel2Ideal.τ Cert.Kernel2Ideal.sig) → Buf (Elt Ideal) ℓ) (c : Dev Cert.Kernel2Ideal.nD)

theorem res_rwkv : Cert.Reference2Ideal.Read.val_main_v24 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 8 Cert.Kernel2Ideal.cfg0.N := by
  refine Eq.trans ?_ (Cert.Kernel2Ideal.Inproj.array8 m c).symm
  funext i
  refine Eq.trans ?_ (Cert.Reference2Ideal.Inproj.rwkv_ref _ _ _ _ _ (i 0) (i 1) (i 2))
  congr 1
  funext a
  fin_cases a <;> rfl

theorem res_qs : Cert.Reference2Ideal.Read.val_main_v68 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      = (Cert.Kernel2Ideal.Gen.dats m 0 c).arrAt 9 Cert.Kernel2Ideal.cfg0.N := by
  refine Eq.trans ?_ (Cert.Kernel2Ideal.Inproj.array9 m c).symm
  funext i
  refine Eq.trans ?_ (Cert.Reference2Ideal.Inproj.q_ref _ _ _ _ _ _ (i 0) (i 1) (i 2))
  congr 1
  funext a
  fin_cases a <;> rfl

theorem res_ks : Cert.Reference2Ideal.Read.val_main_v71 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg6))
      = (Cert.Kernel2Ideal.Gen.dats m 0 c).arrAt 10 Cert.Kernel2Ideal.cfg0.N := by
  refine Eq.trans ?_ (Cert.Kernel2Ideal.Inproj.array10 m c).symm
  funext i
  refine Eq.trans ?_ (Cert.Reference2Ideal.Inproj.k_ref _ _ _ _ _ _ (i 0) (i 1) (i 2))
  congr 1
  funext a
  fin_cases a <;> rfl

theorem res_vs : Cert.Reference2Ideal.Read.val_main_v74 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 11 Cert.Kernel2Ideal.cfg0.N := by
  refine Eq.trans ?_ (Cert.Kernel2Ideal.Inproj.array11 m c).symm
  funext i
  refine Eq.trans ?_ (Cert.Reference2Ideal.Inproj.v_ref _ _ _ _ _ (i 0) (i 1) (i 2))
  congr 1
  funext a
  fin_cases a <;> rfl

theorem res_gates : Cert.Reference2Ideal.Read.val_main_v80 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 12 Cert.Kernel2Ideal.cfg0.N := by
  refine Eq.trans ?_ (Cert.Kernel2Ideal.Inproj.array12 m c).symm
  funext i
  refine Eq.trans ?_ (Cert.Reference2Ideal.Inproj.gate_ref _ _ _ _ _ (i 0) (i 1) (i 2))
  congr 1
  funext a
  fin_cases a <;> rfl

variable (m' : (ℓ : Loc Cert.Reference2Ideal.nD Cert.Reference2Ideal.τ Cert.Reference2Ideal.sig) → Buf (Elt Ideal) ℓ)
  (hagree : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
    ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
    ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
    ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
    ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
    ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
    ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))

include hagree

theorem res_qs' : Cert.Reference2Ideal.Value.res_main_v68 m' c = (Cert.Kernel2Ideal.Gen.dats m 0 c).arrAt 9 Cert.Kernel2Ideal.cfg0.N := by
  obtain ⟨h0, h1, h2, h3, h4, h5, h6⟩ := hagree
  rw [Cert.Reference2Ideal.Read.val_main_v68_eq, h0, h1, h2, h3, h4, h5]
  exact res_qs m c

theorem res_ks' : Cert.Reference2Ideal.Value.res_main_v71 m' c = (Cert.Kernel2Ideal.Gen.dats m 0 c).arrAt 10 Cert.Kernel2Ideal.cfg0.N := by
  obtain ⟨h0, h1, h2, h3, h4, h5, h6⟩ := hagree
  rw [Cert.Reference2Ideal.Read.val_main_v71_eq, h0, h1, h2, h3, h4, h6]
  exact res_ks m c

end

theorem equal2 : Cert.algebraic_Kernel2Ideal_Reference2Ideal := by
  pair_intro
  · run_from Cert.Kernel2Ideal.Value.run_blocks m g
  · run_from Cert.Reference2Ideal.Value.run m' g'
    · exact (Cert.Reference2Ideal.Read.val_main_v24_eq _ _ _ _ _).trans (res_rwkv m c)
    · exact res_qs' m c m' (hagree c)
    · exact res_ks' m c m' (hagree c)
    · exact (Cert.Reference2Ideal.Read.val_main_v74_eq _ _ _ _ _).trans (res_vs m c)
    · exact (Cert.Reference2Ideal.Read.val_main_v80_eq _ _ _ _ _).trans (res_gates m c)

/-- The merging kernel is, word for word, its ideal reading at machine floats, whose frame holds for any floats. -/
theorem frame3 : Cert.quiescent_Kernel3 :=
  (show Cert.quiescent_Kernel3 = ∀ (m : (ℓ : Loc Cert.Kernel3Ideal.nD Cert.Kernel3Ideal.τ Cert.Kernel3Ideal.sig) → Buf (Elt Bits) ℓ)
      (g : Dev Cert.Kernel3Ideal.nD → PrngReg), Cert.Pre_Kernel3 m →
      θ_run (Cert.Kernel3Ideal.defs (F := Bits)) (onTc (τ := Cert.Kernel3Ideal.τ) (Cert.Kernel3Ideal.main (F := Bits))) ⟨m, fun _ => 0, g⟩
        (fun r => (∀ c : Dev Cert.Kernel3Ideal.nD, Cert.Kernel3Ideal.Merge.Kept m r.2.mem c) ∧ r.2.sem = fun _ => 0) by
    sl_kernel_rfl).mpr
  fun m g _ => Cert.Kernel3Ideal.Merge.frame (F := Bits) m g

/-- The merging reference leaves its arguments and the counters. -/
theorem ref_frame3 : Cert.quiescent_Reference3Ideal := by
  intro m g _
  exact (θ_run Cert.Reference3Ideal.defs _ _).mono
    (fun r h => ⟨fun c => (h c).2.2, Idealize.ShloMosaic.sem_eq_zero_of_no_sems (by decide) r.2⟩)
    (Cert.Reference3Ideal.Value.run (F := Ideal) m g)

section
variable (m : (ℓ : Loc Cert.Kernel3Ideal.nD Cert.Kernel3Ideal.τ Cert.Kernel3Ideal.sig) → Buf (Elt Ideal) ℓ) (c : Dev Cert.Kernel3Ideal.nD)

theorem res_sum : Cert.Reference3Ideal.Read.val_main_v14 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))
      = (Cert.Kernel3Ideal.Merge.dats m 0 c).arrAt 14 Cert.Kernel3Ideal.cfg0.N := by
  refine Eq.trans ?_ (Cert.Kernel3Ideal.Merge.array14 m c).symm
  funext i
  refine Eq.trans ?_ (Cert.Reference3Ideal.Merge.sum_ref _ _ _ _ _ _ _ _ (i 0) (i 1) (i 2))
  congr 1
  funext a
  fin_cases a <;> rfl

theorem res_norm (m' : (ℓ : Loc Cert.Reference3Ideal.nD Cert.Reference3Ideal.τ Cert.Reference3Ideal.sig) → Buf (Elt Ideal) ℓ)
    (hagree : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
    ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
    ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
    ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
    ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
    ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
    ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
    ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
    ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
    ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
    ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
    ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
    ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
    ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
    ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) :
    Cert.Reference3Ideal.Value.res_main_v37 m' c = (Cert.Kernel3Ideal.Merge.dats m 0 c).arrAt 15 Cert.Kernel3Ideal.cfg0.N := by
  obtain ⟨h0, h1, h2, h3, h4, h5, h6, h7, h8, h9, h10, -⟩ := hagree
  rw [Cert.Reference3Ideal.Read.val_main_v37_eq, h0, h1, h2, h3, h4, h5, h6, h7, h8, h9, h10]
  refine Eq.trans ?_ (Cert.Kernel3Ideal.Merge.array15 m c).symm
  funext i
  refine Eq.trans ?_ (Cert.Reference3Ideal.Merge.tiles_ref _ _ _ _ _ _ _ _ _ _ _ (i 0) (i 1) (i 2))
  congr 1
  funext a
  fin_cases a <;> rfl

end

theorem equal3 : Cert.algebraic_Kernel3Ideal_Reference3Ideal := by
  pair_intro
  · run_from Cert.Kernel3Ideal.Merge.run_blocks m g
  · run_from Cert.Reference3Ideal.Value.run m' g'
    · exact (Cert.Reference3Ideal.Read.val_main_v14_eq _ _ _ _ _ _ _ _).trans (res_sum m c)
    · exact res_norm m c m' (hagree c)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m g _ => Cert.Kernel.Gen.frame m g, fun m g _ => Cert.KernelIdeal.Gen.frame m g, fun m g _ => Cert.KernelIdeal.Gen.frame m g,
    ref_frame, fun m g _ => ref_frame m g trivial,
    fun m g _ => Cert.Kernel2.Gen.frame m g, fun m g _ => Cert.Kernel2Ideal.Gen.frame m g, ref_frame2,
    frame3, fun m g _ => Cert.Kernel3Ideal.Merge.frame m g, ref_frame3,
    trivial, equal, trivial, equal2, trivial, equal3⟩

end Cert.Proof

end
